-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x3584 : Shape := ⟨3, ![192, 1, 3584]⟩
abbrev S1792x19456 : Shape := ⟨2, ![1792, 19456]⟩
abbrev S28x19456 : Shape := ⟨2, ![28, 19456]⟩
abbrev S192x3584 : Shape := ⟨2, ![192, 3584]⟩
abbrev S192x19456 : Shape := ⟨2, ![192, 19456]⟩
abbrev S192x1 : Shape := ⟨2, ![192, 1]⟩
abbrev S1792x1024 : Shape := ⟨2, ![1792, 1024]⟩
abbrev S28x1024 : Shape := ⟨2, ![28, 1024]⟩
abbrev S192x1024 : Shape := ⟨2, ![192, 1024]⟩
abbrev S192x128 : Shape := ⟨2, ![192, 128]⟩
abbrev S192 : Shape := ⟨1, ![192]⟩
abbrev S256x256 : Shape := ⟨2, ![256, 256]⟩
abbrev S192x256 : Shape := ⟨2, ![192, 256]⟩
abbrev S32x256 : Shape := ⟨2, ![32, 256]⟩
abbrev S128x256 : Shape := ⟨2, ![128, 256]⟩
abbrev S64x256 : Shape := ⟨2, ![64, 256]⟩
abbrev S16x256 : Shape := ⟨2, ![16, 256]⟩
abbrev S1x256 : Shape := ⟨2, ![1, 256]⟩

abbrev nBuf : Space → Nat
  | .hbm => 7
  | .vmem => 11
  | .smem => 0
  | _ => 0

abbrev bufTy : (tb : Table) → Fin (tcTables nBuf tb) → BufTy
  | .hbm, ⟨0, _⟩ => ⟨S192x1x3584, .bf16⟩
  | .hbm, ⟨1, _⟩ => ⟨S1792x19456, .i8⟩
  | .hbm, ⟨2, _⟩ => ⟨S28x19456, .f32⟩
  | .hbm, ⟨3, _⟩ => ⟨S192x3584, .bf16⟩
  | .hbm, ⟨4, _⟩ => ⟨S192x19456, .bf16⟩
  | .hbm, ⟨5, _⟩ => ⟨S192x3584, .fp8e4m3⟩
  | .hbm, ⟨6, _⟩ => ⟨S192x1, .f32⟩
  | .local _ .vmem, ⟨0, _⟩ => ⟨S192x3584, .bf16⟩
  | .local _ .vmem, ⟨1, _⟩ => ⟨S1792x1024, .i8⟩
  | .local _ .vmem, ⟨2, _⟩ => ⟨S1792x1024, .i8⟩
  | .local _ .vmem, ⟨3, _⟩ => ⟨S28x1024, .f32⟩
  | .local _ .vmem, ⟨4, _⟩ => ⟨S28x1024, .f32⟩
  | .local _ .vmem, ⟨5, _⟩ => ⟨S192x1024, .bf16⟩
  | .local _ .vmem, ⟨6, _⟩ => ⟨S192x1024, .bf16⟩
  | .local _ .vmem, ⟨7, _⟩ => ⟨S192x3584, .fp8e4m3⟩
  | .local _ .vmem, ⟨8, _⟩ => ⟨S192x1, .f32⟩
  | .local _ .vmem, ⟨9, _⟩ => ⟨S192x3584, .fp8e4m3⟩
  | .local _ .vmem, ⟨10, _⟩ => ⟨S192x128, .f32⟩
  | _, _ => ⟨S192x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![19], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S192x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S192x1x3584 : Shape := ⟨3, ![192, 1, 3584]⟩
abbrev S1792x19456 : Shape := ⟨2, ![1792, 19456]⟩
abbrev S28x19456 : Shape := ⟨2, ![28, 19456]⟩
abbrev S192x3584 : Shape := ⟨2, ![192, 3584]⟩
abbrev S192x19456 : Shape := ⟨2, ![192, 19456]⟩
abbrev S192x1 : Shape := ⟨2, ![192, 1]⟩
abbrev S192 : Shape := ⟨1, ![192]⟩
abbrev S1792x1x19456 : Shape := ⟨3, ![1792, 1, 19456]⟩
abbrev S1792x2x19456 : Shape := ⟨3, ![1792, 2, 19456]⟩
abbrev S28x128x19456 : Shape := ⟨3, ![28, 128, 19456]⟩
abbrev S192x28x128 : Shape := ⟨3, ![192, 28, 128]⟩
abbrev S28x192x19456 : Shape := ⟨3, ![28, 192, 19456]⟩
abbrev S28x1x19456 : Shape := ⟨3, ![28, 1, 19456]⟩

abbrev nBuf : Space → Nat
  | .hbm => 7
  | .vmem => 6
  | .smem => 0
  | _ => 0

abbrev bufTy : (tb : Table) → Fin (tcTables nBuf tb) → BufTy
  | .hbm, ⟨0, _⟩ => ⟨S192x1x3584, .bf16⟩
  | .hbm, ⟨1, _⟩ => ⟨S1792x19456, .i8⟩
  | .hbm, ⟨2, _⟩ => ⟨S28x19456, .f32⟩
  | .hbm, ⟨3, _⟩ => ⟨S192x3584, .bf16⟩
  | .hbm, ⟨4, _⟩ => ⟨S192x19456, .bf16⟩
  | .hbm, ⟨5, _⟩ => ⟨S192x3584, .fp8e4m3⟩
  | .hbm, ⟨6, _⟩ => ⟨S192x1, .f32⟩
  | .local _ .vmem, ⟨0, _⟩ => ⟨S192x3584, .bf16⟩
  | .local _ .vmem, ⟨1, _⟩ => ⟨S1792x19456, .i8⟩
  | .local _ .vmem, ⟨2, _⟩ => ⟨S28x19456, .f32⟩
  | .local _ .vmem, ⟨3, _⟩ => ⟨S192x19456, .bf16⟩
  | .local _ .vmem, ⟨4, _⟩ => ⟨S192x3584, .fp8e4m3⟩
  | .local _ .vmem, ⟨5, _⟩ => ⟨S192x1, .f32⟩
  | _, _ => ⟨S192x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x19456 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S28x19456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x19456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Group.lean ====
module

public import proofs.«01_k».proof.Proof.Gen.KernelIdeal.Skeleton
public import Idealize.ShloMosaic.Lib.Pointwise
public import Idealize.ShloMosaic.Lib.BitcastFour
public import Idealize.ShloMosaic.Lib.Pipeline.FrameBody
public import Idealize.ShloMosaic.Lib.Pipeline.Value

@[expose] public section

noncomputable section

namespace Cert.KernelIdeal.Hand

open Cert.KernelIdeal.Gen
open Idealize.ShloMosaic Idealize.SL.Sem

variable {F : FTy → Type} [FloatOps F]

/-- The packed bytes read as words, four rows to a word, with the top bit of every nibble turned: each nibble is then its signed value plus eight. -/
def biased (wv : Vec F S64x256 .i8) : IVec S16x256 32 :=
  xori (bitcast S16x256 32 wv bitcasts_S64x256_w8_S16x256_w32) (broadcast S16x256 2290649224#32)

/-- The low nibbles of the biased bytes. -/
def loWords (wv : Vec F S64x256 .i8) : IVec S16x256 32 := andi (biased wv) (broadcast S16x256 252645135#32)

/-- The high nibbles of the biased bytes. -/
def hiWords (wv : Vec F S64x256 .i8) : IVec S16x256 32 :=
  andi (shrui (biased wv) (broadcast S16x256 4#32)) (broadcast S16x256 252645135#32)

/-- Words read as four rows of fp8 values each. -/
def asF8 (w : IVec S16x256 32) : FVec F S64x256 .fp8e4m3 :=
  bitcastToFloat .fp8e4m3 (bitcast S64x256 8 w bitcasts_S16x256_w32_S64x256_w8)

/-- The right operand of one group's product: the low nibbles, the high nibbles, and rows that hold minus eight units to take the bias away. -/
def decoded (wv : Vec F S64x256 .i8) : FVec F S256x256 .fp8e4m3 :=
  concatenate S256x256 0 [⟨S64x256, asF8 (loWords wv)⟩, ⟨S64x256, asF8 (hiWords wv)⟩, ⟨S128x256, k0_pay39 (F := F)⟩]
    concatenates_S64x256_S64x256_S128x256_S256x256_d0

/-- One group: the codes twice over times the right operand, times the group's scales, added to the sum so far. -/
def gstep (acc : FVec F S192x256 .f32) (wv : Vec F S64x256 .i8) (xg : Vec F S192x128 .fp8e4m3) (sv : Vec F S1x256 .f32) :
    FVec F S192x256 .f32 :=
  addf acc (mulf
    (matmul dot_S192x256_S256x256_S192x256_1_0_0_1_n_n none
      (concatenate S192x256 1 [⟨S192x128, xg⟩, ⟨S192x128, xg⟩] concatenates_S192x128_S192x128_S192x256_d1 : FVec F S192x256 .fp8e4m3)
      (decoded wv) (constant S192x256 .f32 0x00000000#32))
    (broadcastTo S192x256 sv broadcasts_S1x256_S192x256))

/-- The sum over the first `n` groups, group by group. -/
def accum (W : Fin 28 → Vec F S64x256 .i8) (X : Fin 28 → Vec F S192x128 .fp8e4m3) (S : Fin 28 → Vec F S1x256 .f32) :
    (n : ℕ) → n ≤ 28 → FVec F S192x256 .f32
  | 0, _ => constant S192x256 .f32 0x00000000#32
  | n + 1, h => gstep (accum W X S n (Nat.le_of_succ_le h)) (W ⟨n, h⟩) (X ⟨n, h⟩) (S ⟨n, h⟩)

/-- One stored tile: the sum over all groups, scaled back and by the tokens' scales. -/
def tileOf (W : Fin 28 → Vec F S64x256 .i8) (X : Fin 28 → Vec F S192x128 .fp8e4m3) (S : Fin 28 → Vec F S1x256 .f32)
    (xs : Vec F S192x128 .f32) : FVec F S192x256 .bf16 :=
  truncf .bf16 (mulf (mulf (accum W X S 28 (Nat.le_refl _)) (broadcast S192x256 (Scalar.ofBits .f32 0x44000000#32)))
    (concatenate S192x256 1 [⟨S192x128, xs⟩, ⟨S192x128, xs⟩] concatenates_S192x128_S192x128_S192x256_d1 : FVec F S192x256 .f32)) bitsLt_bf16_f32

/-- The rectangle of group `g`'s bytes for tile `k`. -/
def wRect (k : Fin 4) (g : Fin 28) : Rect S1792x1024 := Rect.unit ![64 * g.val, 256 * k.val] ![64, 256] (by
  intro a
  match a with
  | ⟨0, _⟩ => show 64 * g.val + 64 ≤ 1792; omega
  | ⟨1, _⟩ => show 256 * k.val + 256 ≤ 1024; omega)

/-- The rectangle of group `g`'s scales for tile `k`. -/
def sRect (k : Fin 4) (g : Fin 28) : Rect S28x1024 := Rect.unit ![g.val, 256 * k.val] ![1, 256] (by
  intro a
  match a with
  | ⟨0, _⟩ => show g.val + 1 ≤ 28; omega
  | ⟨1, _⟩ => show 256 * k.val + 256 ≤ 1024; omega)

/-- The rectangle of group `g`'s codes. -/
def xRect (g : Fin 28) : Rect S192x3584 := Rect.unit ![0, 128 * g.val] ![192, 128] (by
  intro a
  match a with
  | ⟨0, _⟩ => show 0 + 192 ≤ 192; omega
  | ⟨1, _⟩ => show 128 * g.val + 128 ≤ 3584; omega)

/-- The rectangle of tile `k` in a block of results. -/
def yRect (k : Fin 4) : Rect S192x1024 := Rect.unit ![0, 256 * k.val] ![192, 256] (by
  intro a
  match a with
  | ⟨0, _⟩ => show 0 + 192 ≤ 192; omega
  | ⟨1, _⟩ => show 256 * k.val + 256 ≤ 1024; omega)

/-- The rectangle of block `b` of 256 codes. -/
def cRect (b : Fin 14) : Rect S192x3584 := Rect.unit ![0, 256 * b.val] ![192, 256] (by
  intro a
  match a with
  | ⟨0, _⟩ => show 0 + 192 ≤ 192; omega
  | ⟨1, _⟩ => show 256 * b.val + 256 ≤ 3584; omega)

/-- Tile `k` of a block of results, from what the block's operands hold. -/
def tile (x1 : Vec F S1792x1024 .i8) (x2 : Vec F S28x1024 .f32) (xp : Vec F S192x3584 .fp8e4m3) (xs : Vec F S192x128 .f32) (k : Fin 4) :
    FVec F S192x256 .bf16 :=
  tileOf (fun g => View.ld x1 (wRect k g)) (fun g => View.ld xp (xRect g)) (fun g => View.ld x2 (sRect k g))
    (View.ld xs (Rect.unit ![0, 0] S192x128.size inb_S192x128_S192x128_0_0))

/-- A block of results: its four tiles, the last stored first in the list. -/
def yPieces (x1 : Vec F S1792x1024 .i8) (x2 : Vec F S28x1024 .f32) (xp : Vec F S192x3584 .fp8e4m3) (xs : Vec F S192x128 .f32) :
    List (View.Piece (Elt F) S192x1024 .bf16) :=
  [⟨yRect 3, tile x1 x2 xp xs 3⟩, ⟨yRect 2, tile x1 x2 xp xs 2⟩, ⟨yRect 1, tile x1 x2 xp xs 1⟩, ⟨yRect 0, tile x1 x2 xp xs 0⟩]

/-- A block of results. -/
def yBlock (x1 : Vec F S1792x1024 .i8) (x2 : Vec F S28x1024 .f32) (xp : Vec F S192x3584 .fp8e4m3) (xs : Vec F S192x128 .f32) :
    Vec F S192x1024 .bf16 := View.canon (yPieces x1 x2 xp xs)

/-- Block `b` of the permuted codes. -/
def xBlock (codes : Vec F S192x3584 .fp8e4m3) (b : Fin 14) : FVec F S192x256 .fp8e4m3 :=
  k0_pay24 k0_pay21 (Scalar.ofBits .f32 0x3F800000#32) (Scalar.ofBits .f32 0x00000000#32) (View.ld codes (cRect b))

/-- The permuted codes' fourteen blocks, the last stored first in the list. -/
def xPieces (codes : Vec F S192x3584 .fp8e4m3) : List (View.Piece (Elt F) S192x3584 .fp8e4m3) :=
  [⟨cRect 13, xBlock codes 13⟩, ⟨cRect 12, xBlock codes 12⟩, ⟨cRect 11, xBlock codes 11⟩, ⟨cRect 10, xBlock codes 10⟩,
   ⟨cRect 9, xBlock codes 9⟩, ⟨cRect 8, xBlock codes 8⟩, ⟨cRect 7, xBlock codes 7⟩, ⟨cRect 6, xBlock codes 6⟩,
   ⟨cRect 5, xBlock codes 5⟩, ⟨cRect 4, xBlock codes 4⟩, ⟨cRect 3, xBlock codes 3⟩, ⟨cRect 2, xBlock codes 2⟩,
   ⟨cRect 1, xBlock codes 1⟩, ⟨cRect 0, xBlock codes 0⟩]

/-- The permuted codes. -/
def xPerm (codes : Vec F S192x3584 .fp8e4m3) : Vec F S192x3584 .fp8e4m3 := View.canon (xPieces codes)

/-- The four tiles cover the block. -/
theorem yPieces_cover (x1 : Vec F S1792x1024 .i8) (x2 : Vec F S28x1024 .f32) (xp : Vec F S192x3584 .fp8e4m3) (xs : Vec F S192x128 .f32) (y : S192x1024.Idx) :
    ∃ p ∈ yPieces x1 x2 xp xs, y ∈ p.1.set := by
  have hk : (y 1).val / 256 < 4 := by have := (y 1).isLt; change (y 1).val < 1024 at this; omega
  have hm : y ∈ (yRect ⟨(y 1).val / 256, hk⟩).set := by
    refine Rect.mem_set_unit.mpr fun a => ?_
    match a with
    | ⟨0, _⟩ => exact ⟨Nat.zero_le _, by have := (y 0).isLt; exact this⟩
    | ⟨1, _⟩ => show 256 * ((y 1).val / 256) ≤ (y 1).val ∧ (y 1).val < 256 * ((y 1).val / 256) + 256; omega
  generalize (⟨(y 1).val / 256, hk⟩ : Fin 4) = k at hm
  refine ⟨⟨yRect k, tile x1 x2 xp xs k⟩, ?_, hm⟩
  unfold yPieces
  fin_cases k <;> simp

/-- The fourteen blocks cover the codes. -/
theorem xPieces_cover (codes : Vec F S192x3584 .fp8e4m3) (y : S192x3584.Idx) : ∃ p ∈ xPieces codes, y ∈ p.1.set := by
  have hk : (y 1).val / 256 < 14 := by have := (y 1).isLt; change (y 1).val < 3584 at this; omega
  have hm : y ∈ (cRect ⟨(y 1).val / 256, hk⟩).set := by
    refine Rect.mem_set_unit.mpr fun a => ?_
    match a with
    | ⟨0, _⟩ => exact ⟨Nat.zero_le _, by have := (y 0).isLt; exact this⟩
    | ⟨1, _⟩ => show 256 * ((y 1).val / 256) ≤ (y 1).val ∧ (y 1).val < 256 * ((y 1).val / 256) + 256; omega
  generalize (⟨(y 1).val / 256, hk⟩ : Fin 14) = k at hm
  refine ⟨⟨cRect k, xBlock codes k⟩, ?_, hm⟩
  unfold xPieces
  fin_cases k <;> simp

end Cert.KernelIdeal.Hand

end
-- ==== Proof.Quant.lean ====
module

public import proofs.«01_k».proof.Proof.Group

@[expose] public section

noncomputable section

namespace Cert.KernelIdeal.Hand

open Cert.KernelIdeal.Gen
open Idealize.ShloMosaic Idealize.SL.Sem

variable {F : FTy → Type} [FloatOps F]

/-- The floats whose words have the exponent field `k + 127` and no mantissa. -/
def wordPow (k : IVec S192x1 32) : FVec F S192x1 .f32 :=
  bitcastToFloat .f32 (shli (addi k (broadcast S192x1 127#32)) (broadcast S192x1 23#32))

/-- Two to the power `e`, as the product of two such floats. -/
def pow2 (e : IVec S192x1 32) : FVec F S192x1 .f32 :=
  mulf (wordPow (shrsi e (broadcast S192x1 1#32))) (wordPow (subi e (shrsi e (broadcast S192x1 1#32))))

/-- One step of the search for the exponent: `k + s` where `v` is at least two to that power. -/
def bisect (v : FVec F S192x1 .f32) (s : BitVec 32) (k : IVec S192x1 32) : IVec S192x1 32 :=
  select (cmpf .oge v (pow2 (addi k (broadcast S192x1 s)))) (addi k (broadcast S192x1 s)) k

/-- The search, from -126 by steps that halve from 128. -/
def search (v : FVec F S192x1 .f32) : IVec S192x1 32 :=
  bisect v 1#32 (bisect v 2#32 (bisect v 4#32 (bisect v 8#32 (bisect v 16#32 (bisect v 32#32 (bisect v 64#32 (bisect v 128#32
    (broadcast S192x1 4294967170#32))))))))

/-- Which tokens have a value in the normal range. -/
def normal (v : FVec F S192x1 .f32) : IVec S192x1 1 :=
  andi (cmpf .oge v (broadcast S192x1 (Scalar.ofBits .f32 0x00800000#32))) (cmpf .ole v (broadcast S192x1 (Scalar.ofBits .f32 0x7F7FFFFF#32)))

/-- The exponents of the tokens' scales. -/
def expo (x : Vec F S192x3584 .bf16) : IVec S192x1 32 :=
  select (cmpf .oeq (k0_pay2 x) (broadcast S192x1 (Scalar.ofBits .f32 0x00000000#32))) (broadcast S192x1 0#32)
    (select (normal (k0_pay3 x)) (addi (search (k0_pay3 x)) (broadcast S192x1 1#32)) (broadcast S192x1 0#32))

/-- The tokens' scales. -/
def scaleV (x : Vec F S192x3584 .bf16) : FVec F S192x1 .f32 := pow2 (expo x)

/-- The codes. -/
def codesV (x : Vec F S192x3584 .bf16) : FVec F S192x3584 .fp8e4m3 :=
  truncf .fp8e4m3 (minimumf (broadcast S192x3584 (Scalar.ofBits .f32 0x43E00000#32))
    (maximumf (broadcast S192x3584 (Scalar.ofBits .f32 0xC3E00000#32))
      (mulf (k0_pay1 x) (broadcastTo S192x3584 (pow2 (subi (broadcast S192x1 0#32) (expo x))) broadcasts_S192x1_S192x3584)))) bitsLt_fp8e4m3_f32

/-- What a load of all tokens reads. -/
def xAll (x0 : Vec F S192x3584 .bf16) : Vec F S192x3584 .bf16 :=
  View.ld x0 (Rect.unit ![0, 0] S192x3584.size inb_S192x3584_S192x3584_0_0)

/-- The one store of the codes. -/
def codesPieces (x0 : Vec F S192x3584 .bf16) : List (View.Piece (Elt F) S192x3584 .fp8e4m3) :=
  [⟨Rect.unit ![0, 0] S192x3584.size inb_S192x3584_S192x3584_0_0, codesV (xAll x0)⟩]

/-- The one store of the scales. -/
def scalePieces (x0 : Vec F S192x3584 .bf16) : List (View.Piece (Elt F) S192x1 .f32) :=
  [⟨Rect.unit ![0, 0] S192x1.size inb_S192x1_S192x1_0_0, scaleV (xAll x0)⟩]

/-- The one store of the scales spread over the lanes. -/
def scalesPieces (x0 : Vec F S192x3584 .bf16) : List (View.Piece (Elt F) S192x128 .f32) :=
  [⟨Rect.unit ![0, 0] S192x128.size inb_S192x128_S192x128_0_0, k0_pay20 (scaleV (xAll x0))⟩]

/-- The codes of the tokens `x0`. -/
def codesOf (x0 : Vec F S192x3584 .bf16) : Vec F S192x3584 .fp8e4m3 := View.canon (codesPieces x0)

/-- The scales of the tokens `x0`. -/
def scaleOf (x0 : Vec F S192x3584 .bf16) : Vec F S192x1 .f32 := View.canon (scalePieces x0)

/-- The scales of the tokens `x0`, spread over the lanes. -/
def scalesOf (x0 : Vec F S192x3584 .bf16) : Vec F S192x128 .f32 := View.canon (scalesPieces x0)

/-- A rectangle of a shape's own sizes at the origin holds every index. -/
theorem mem_all {s : Shape} {off : Fin s.rank → ℕ} (h : off = fun _ => 0) (inb : ∀ a, off a + s.size a ≤ s.size a) (y : s.Idx) :
    y ∈ (Rect.unit off s.size inb).set := by
  subst h
  exact Rect.mem_set_unit.mpr fun a => ⟨Nat.zero_le _, by rw [Nat.zero_add]; exact (y a).isLt⟩

/-- The store of the codes covers the array. -/
theorem codesPieces_cover (x0 : Vec F S192x3584 .bf16) (y : S192x3584.Idx) : ∃ p ∈ codesPieces x0, y ∈ p.1.set :=
  ⟨_, List.mem_singleton.mpr rfl, mem_all (by funext a; fin_cases a <;> rfl) inb_S192x3584_S192x3584_0_0 y⟩

/-- The store of the scales covers the array. -/
theorem scalePieces_cover (x0 : Vec F S192x3584 .bf16) (y : S192x1.Idx) : ∃ p ∈ scalePieces x0, y ∈ p.1.set :=
  ⟨_, List.mem_singleton.mpr rfl, mem_all (by funext a; fin_cases a <;> rfl) inb_S192x1_S192x1_0_0 y⟩

/-- The store of the spread scales covers the array. -/
theorem scalesPieces_cover (x0 : Vec F S192x3584 .bf16) (y : S192x128.Idx) : ∃ p ∈ scalesPieces x0, y ∈ p.1.set :=
  ⟨_, List.mem_singleton.mpr rfl, mem_all (by funext a; fin_cases a <;> rfl) inb_S192x128_S192x128_0_0 y⟩

/-- The canon of one piece of the whole shape at the origin is its payload. -/
theorem canon_all {e : EltTy} {s : Shape} {off : Fin s.rank → ℕ} (h : off = fun _ => 0) (inb : ∀ a, off a + s.size a ≤ s.size a)
    (w : s.Idx → Elt F e) : View.canon [(⟨Rect.unit off s.size inb, w⟩ : View.Piece (Elt F) s e)] = w := by
  funext y
  refine View.canon_apply_of_pieces w _ ?_ y ⟨_, List.mem_singleton.mpr rfl, mem_all h inb y⟩
  intro p hp x
  obtain rfl := List.mem_singleton.mp hp
  refine congrArg w (funext fun a => Fin.ext ?_)
  subst h
  show (x a).val = 0 + 1 * (x a).val
  omega

/-- A load of all tokens reads the tokens. -/
theorem xAll_eq (x0 : Vec F S192x3584 .bf16) : xAll x0 = x0 := by
  funext y
  refine congrArg x0 (funext fun a => Fin.ext ?_)
  fin_cases a <;> (show 0 + 1 * _ = _; omega)

/-- What the store of the codes leaves is the codes. -/
theorem codesOf_eq (x0 : Vec F S192x3584 .bf16) : codesOf x0 = codesV x0 := by
  unfold codesOf codesPieces
  rw [xAll_eq]
  exact canon_all (by funext a; fin_cases a <;> rfl) _ _

/-- What the store of the scales leaves is the scales. -/
theorem scaleOf_eq (x0 : Vec F S192x3584 .bf16) : scaleOf x0 = scaleV x0 := by
  unfold scaleOf scalePieces
  rw [xAll_eq]
  exact canon_all (by funext a; fin_cases a <;> rfl) _ _

/-- What the store of the spread scales leaves is the spread scales. -/
theorem scalesOf_eq (x0 : Vec F S192x3584 .bf16) : scalesOf x0 = k0_pay20 (scaleV x0) := by
  unfold scalesOf scalesPieces
  rw [xAll_eq]
  exact canon_all (by funext a; fin_cases a <;> rfl) _ _

end Cert.KernelIdeal.Hand

end
-- ==== Proof.RunB.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Group
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3000000 in
/-- The body at a grid point other than the first: it reads the permuted codes and the spread scales that the first point
    left, stores the block of results, and leaves all else as it was. -/
theorem runB (c : Dev nD) (i : grid0.Coords) (arg1 : Memref sig .tc .vmem S192x3584 .bf16) (harg1 : arg1.IsWhole) (arg2 : Memref sig .tc .vmem S1792x1024 .i8) (harg2 : arg2.IsWhole) (arg3 : Memref sig .tc .vmem S28x1024 .f32) (harg3 : arg3.IsWhole) (arg4 : Memref sig .tc .vmem S192x1024 .bf16) (harg4 : arg4.IsWhole) (arg5 : Memref sig .tc .vmem S192x3584 .fp8e4m3) (harg5 : arg5.IsWhole) (arg6 : Memref sig .tc .vmem S192x1 .f32) (harg6 : arg6.IsWhole) (arg7 : Memref sig .tc .vmem S192x3584 .fp8e4m3) (harg7 : arg7.IsWhole) (arg8 : Memref sig .tc .vmem S192x128 .f32) (harg8 : arg8.IsWhole) (hc0 : ¬k0_cond1 i = 1#1)
    (x0 : Vec F S192x3584 .bf16) (x1 : Vec F S1792x1024 .i8) (x2 : Vec F S28x1024 .f32) (d4 : Vec F S192x3584 .fp8e4m3) (d5 : Vec F S192x1 .f32) (xp : Vec F S192x3584 .fp8e4m3) (xs : Vec F S192x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare d4 ∗ owns (c : Thread nD τ) arg6 fullShare d5 ∗ owns (c : Thread nD τ) arg7 fullShare xp ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare (yBlock x1 x2 xp xs) ∗ owns (c : Thread nD τ) arg5 fullShare d4 ∗ owns (c : Thread nD τ) arg6 fullShare d5 ∗ owns (c : Thread nD τ) arg7 fullShare xp ∗ owns (c : Thread nD τ) arg8 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    simp only [k0_part69_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    subst hf0 hf1 hf2 hf4 hf5 hfs0 hfs1
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; swap; · iexact H3
      ipureintro
      refine Eq.trans (congrArg (fun L => View.read (Elt F) arg4.view (arg4.view.writes (Elt F) f3 L)) ?_)
        (View.read_writes_eq_canon _ _ _ (yPieces_cover _ _ _ _))
      rfl
    isplitl [H4]
    · iexists _; isplitr; · ipureintro; rfl
      iexact H4
    isplitl [H5]
    · iexists _; isplitr; · ipureintro; rfl
      iexact H5
    isplitl [HS0]
    · iexists _; isplitr; · ipureintro; rfl
      iexact HS0
    iexists _; isplitr; · ipureintro; rfl
    iexact HS1

end Cert.KernelIdeal.Hand

end
-- ==== Proof.RunA.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Quant
public import proofs.«01_k».proof.Proof.RunB
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3000000 in
/-- The body at the first point: it leaves the codes and the scales of the tokens in their windows and in the scratch buffers, and the block of results. -/
theorem runA (c : Dev nD) (i : grid0.Coords) (arg1 : Memref sig .tc .vmem S192x3584 .bf16) (harg1 : arg1.IsWhole) (arg2 : Memref sig .tc .vmem S1792x1024 .i8) (harg2 : arg2.IsWhole) (arg3 : Memref sig .tc .vmem S28x1024 .f32) (harg3 : arg3.IsWhole) (arg4 : Memref sig .tc .vmem S192x1024 .bf16) (harg4 : arg4.IsWhole) (arg5 : Memref sig .tc .vmem S192x3584 .fp8e4m3) (harg5 : arg5.IsWhole) (arg6 : Memref sig .tc .vmem S192x1 .f32) (harg6 : arg6.IsWhole) (arg7 : Memref sig .tc .vmem S192x3584 .fp8e4m3) (harg7 : arg7.IsWhole) (arg8 : Memref sig .tc .vmem S192x128 .f32) (harg8 : arg8.IsWhole) (hc0 : k0_cond1 i = 1#1)
    (x0 : Vec F S192x3584 .bf16) (x1 : Vec F S1792x1024 .i8) (x2 : Vec F S28x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare (yBlock x1 x2 (xPerm (codesOf x0)) (scalesOf x0)) ∗ owns (c : Thread nD τ) arg5 fullShare (codesOf x0) ∗ owns (c : Thread nD τ) arg6 fullShare (scaleOf x0) ∗ owns (c : Thread nD τ) arg7 fullShare (xPerm (codesOf x0)) ∗ owns (c : Thread nD τ) arg8 fullShare (scalesOf x0)) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    simp only [k0_part69_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    subst hf0 hf1 hf2
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    have e5 : View.read (Elt F) arg5.view (arg5.view.writes (Elt F) arg5.view.junk (codesPieces (View.read (Elt F) arg1.view f0))) = codesOf (View.read (Elt F) arg1.view f0) :=
      View.read_writes_eq_canon _ _ _ (codesPieces_cover _)
    have e8 : View.read (Elt F) arg8.view (arg8.view.writes (Elt F) arg8.view.junk (scalesPieces (View.read (Elt F) arg1.view f0))) = scalesOf (View.read (Elt F) arg1.view f0) :=
      View.read_writes_eq_canon _ _ _ (scalesPieces_cover _)
    have e7 : View.read (Elt F) arg7.view (arg7.view.writes (Elt F) arg7.view.junk
        (xPieces (View.read (Elt F) arg5.view (arg5.view.writes (Elt F) arg5.view.junk (codesPieces (View.read (Elt F) arg1.view f0)))))) = xPerm (codesOf (View.read (Elt F) arg1.view f0)) := by
      rw [e5]; exact View.read_writes_eq_canon _ _ _ (xPieces_cover _)
    isplitl [H3]
    · iexists _; isplitr; swap; · iexact H3
      ipureintro
      rw [← e7, ← e8]
      refine Eq.trans (congrArg (fun L => View.read (Elt F) arg4.view (arg4.view.writes (Elt F) f3 L)) ?_)
        (View.read_writes_eq_canon _ _ _ (yPieces_cover _ _ _ _))
      rfl
    isplitl [H4]
    · iexists _; isplitr; swap; · iexact H4
      ipureintro
      refine Eq.trans (congrArg (fun L => View.read (Elt F) arg5.view (arg5.view.writes (Elt F) f4 L)) ?_)
        (View.read_writes_eq_canon _ _ _ (codesPieces_cover _))
      rfl
    isplitl [H5]
    · iexists _; isplitr; swap; · iexact H5
      ipureintro
      refine Eq.trans (congrArg (fun L => View.read (Elt F) arg6.view (arg6.view.writes (Elt F) f5 L)) ?_)
        (View.read_writes_eq_canon _ _ _ (scalePieces_cover _))
      rfl
    isplitl [HS0]
    · iexists _; isplitr; swap; · iexact HS0
      ipureintro
      rw [← e5]
      refine Eq.trans (congrArg (fun L => View.read (Elt F) arg7.view (arg7.view.writes (Elt F) fs0 L)) ?_)
        (View.read_writes_eq_canon _ _ _ (xPieces_cover _))
      rfl
    iexists _; isplitr; swap; · iexact HS1
    ipureintro
    refine Eq.trans (congrArg (fun L => View.read (Elt F) arg8.view (arg8.view.writes (Elt F) fs1 L)) ?_)
      (View.read_writes_eq_canon _ _ _ (scalesPieces_cover _))
    rfl

end Cert.KernelIdeal.Hand

end
-- ==== Proof.Launch.lean ====
module

public import proofs.«01_k».proof.Proof.RunA
public import Idealize.ShloMosaic.Lib.Pipeline.Frame
public import Idealize.ShloMosaic.Lib.Pipeline.TableIdle
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at the first grid point only. -/
theorem first_iff : ∀ t : Fin cfg0.N, k0_cond1 (grid0.coords t) = 1#1 ↔ t.val % 19 = 0 :=
  (fun t => by
    have ht : t.val < 19 := Nat.lt_of_lt_of_eq t.isLt N_0
    have e0 : (grid0.coords t 0).val = t.val / 1 % 19 := Pipeline.Grid.coords_val t 0 (by decide) rfl
    simp only [k0_cond1, e0]
    word_cmp
   : ∀ t : Fin grid0.N, k0_cond1 (grid0.coords t) = 1#1 ↔ t.val % 19 = 0)

/-- The first grid point. -/
abbrev pt0 : Fin cfg0.N := ⟨0, lt_of_lt_of_eq (by decide) (show 19 = cfg0.N from N_0.symm)⟩

/-- The tokens, as the first grid point finds them in window 0. -/
abbrev toks (c : Dev nD) : Vec F S192x3584 .bf16 := iblk m c 0 pt0

/-- The scratch buffer of permuted codes. -/
abbrev scM0 : Memref sig .tc .vmem S192x3584 .fp8e4m3 := Memref.whole cc0_scratch0
/-- The scratch buffer of scales. -/
abbrev scM1 : Memref sig .tc .vmem S192x128 .f32 := Memref.whole cc0_scratch1

/-- What the region lends the body, spelled over the two scratch buffers and the generator register. -/
theorem lent_eq (c : Dev nD) : Pipeline.ΦA (Val := Elt F) spec0 c
    = (iprop(iprop((∃ d, owns (c : Thread nD τ) scM0 fullShare d) ∗ (∃ d, owns (c : Thread nD τ) scM1 fullShare d)) ∗ (∃ r, prngReg c r)) : sProp 𝕄) := by
  unfold Pipeline.ΦA
  rw [scopedRest0_eq]
  simp only [scM0, scM1, owns_whole]
  try rfl

/-- What holds between grid points: before the first one the scratch buffers hold anything; later they hold the
    permuted codes of the tokens and their scales. -/
def between (c : Dev nD) : ℕ → sProp 𝕄
  | 0 => Pipeline.ΦA spec0 c
  | _ + 1 => iprop(iprop(owns (c : Thread nD τ) scM0 fullShare (xPerm (codesOf (toks m c))) ∗ owns (c : Thread nD τ) scM1 fullShare (scalesOf (toks m c))) ∗ (∃ r, prngReg c r))

/-- The proof data of the region: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlock (iblk m c 1 t) (iblk m c 2 t) (xPerm (codesOf (toks m c))) (scalesOf (toks m c))
    | ⟨4, _⟩ => codesOf (toks m c)
    | ⟨5, _⟩ => scaleOf (toks m c)
  Φ t := between m c t.val
  q _ := fullShare
  owed _ := 0

/-- The arrays are those the region finds. -/
theorem A_eq (c : Dev nD) (w : Fin cfg0.W) : (dats m 0 c).A w = V m c (Pipeline.arrRef spec0 w) := by
  dsimp only [dats]

/-- Window 0 keeps its block. -/
theorem after_0 (c : Dev nD) (t : Fin cfg0.N) : (dats m 0 c).after 0 t = iblk m c 0 t := by dsimp only [dats]
/-- Window 1 keeps its block. -/
theorem after_1 (c : Dev nD) (t : Fin cfg0.N) : (dats m 0 c).after 1 t = iblk m c 1 t := by dsimp only [dats]
/-- Window 2 keeps its block. -/
theorem after_2 (c : Dev nD) (t : Fin cfg0.N) : (dats m 0 c).after 2 t = iblk m c 2 t := by dsimp only [dats]
/-- Window 3 ends with the block of products. -/
theorem after_3 (c : Dev nD) (t : Fin cfg0.N) : (dats m 0 c).after 3 t
    = yBlock (iblk m c 1 t) (iblk m c 2 t) (xPerm (codesOf (toks m c))) (scalesOf (toks m c)) := by dsimp only [dats]
/-- Window 4 ends with the codes. -/
theorem after_4 (c : Dev nD) (t : Fin cfg0.N) : (dats m 0 c).after 4 t = codesOf (toks m c) := by dsimp only [dats]
/-- Window 5 ends with the scale. -/
theorem after_5 (c : Dev nD) (t : Fin cfg0.N) : (dats m 0 c).after 5 t = scaleOf (toks m c) := by dsimp only [dats]

/-- Window 0 holds its block before each point. -/
theorem before_0 (c : Dev nD) (t : Fin cfg0.N) (d) : (dats m 0 c).before 0 t d = iblk m c 0 t :=
  before0_0_of m (dats m 0 c) (A_eq m c 0) (after_0 m c) t d
/-- Window 1 holds its block before each point. -/
theorem before_1 (c : Dev nD) (t : Fin cfg0.N) (d) : (dats m 0 c).before 1 t d = iblk m c 1 t :=
  before0_1_of m (dats m 0 c) (A_eq m c 1) (after_1 m c) t d
/-- Window 2 holds its block before each point. -/
theorem before_2 (c : Dev nD) (t : Fin cfg0.N) (d) : (dats m 0 c).before 2 t d = iblk m c 2 t :=
  before0_2_of m (dats m 0 c) (A_eq m c 2) (after_2 m c) t d

/-- Window 4's buffer is fresh before the first point only. -/
theorem fresh_4 : ∀ n, n ≤ cfg0.N → cfg0.fresh 4 n = (fun n => decide (n = 0) || decide (n = 19)) n :=
  Cfg.fresh_tab cfg0 4 _ rfl ((by decide +kernel : ∀ t : Fin grid0.N, (fun n => decide (n = 0) || decide (n = 19)) (t.val + 1)
    = ((cfg0.win 4).flush t || (cfg0.idle 4 (cfg0.grid.coords t) && (fun n => decide (n = 0) || decide (n = 19)) t.val))))

/-- Window 5's buffer is fresh before the first point only. -/
theorem fresh_5 : ∀ n, n ≤ cfg0.N → cfg0.fresh 5 n = (fun n => decide (n = 0) || decide (n = 19)) n :=
  Cfg.fresh_tab cfg0 5 _ rfl ((by decide +kernel : ∀ t : Fin grid0.N, (fun n => decide (n = 0) || decide (n = 19)) (t.val + 1)
    = ((cfg0.win 5).flush t || (cfg0.idle 5 (cfg0.grid.coords t) && (fun n => decide (n = 0) || decide (n = 19)) t.val))))

/-- After the first point window 4 holds the codes. -/
theorem before_4 (c : Dev nD) (t : Fin cfg0.N) (ht : ¬ t.val % 19 = 0) (d) : (dats m 0 c).before 4 t d = codesOf (toks m c) := by
  have hN : t.val < 19 := lt_of_lt_of_eq t.isLt (show cfg0.N = 19 from N_0)
  rw [(dats m 0 c).before_out_traj 4 rfl (fun _ _ => rfl) (fun t _ _ _ => by rw [after_4, after_4]) t.val t rfl d, fresh_4 _ t.isLt.le,
    after_4, if_neg]
  simp only [Bool.or_eq_true, decide_eq_true_eq]; omega

/-- After the first point window 5 holds the scale. -/
theorem before_5 (c : Dev nD) (t : Fin cfg0.N) (ht : ¬ t.val % 19 = 0) (d) : (dats m 0 c).before 5 t d = scaleOf (toks m c) := by
  have hN : t.val < 19 := lt_of_lt_of_eq t.isLt (show cfg0.N = 19 from N_0)
  rw [(dats m 0 c).before_out_traj 5 rfl (fun _ _ => rfl) (fun t _ _ _ => by rw [after_5, after_5]) t.val t rfl d, fresh_5 _ t.isLt.le,
    after_5, if_neg]
  simp only [Bool.or_eq_true, decide_eq_true_eq]; omega

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A window that holds what its proof data says, at a point where it is not idle, is left as promised. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- Window 4 is left as promised at a later point when it holds the codes. -/
theorem leaves_4 (c : Dev nD) (t : Fin cfg0.N) (ht : ¬ t.val % 19 = 0) :
    owns (c : Thread nD τ) (st0_4 t) fullShare (codesOf (toks m c)) ⊢ ((dats m 0 c).leavesExact 4 t : sProp 𝕄) := by
  have hid : cfg0.idle 4 (grid0.coords t) = true := by
    show (!(k0_cond1 (grid0.coords t) == 1#1)) = true
    rw [Bool.not_eq_true', beq_eq_false_iff_ne]
    exact fun h => ht ((first_iff t).mp h)
  unfold Dat.leavesExact
  rw [hid]
  cases hf : (cfg0.win 4).flush t
  · simp only [before_4 m c t ht]
    iintro H
    iexists (fun _ => default)
    iexact H
  · simp only [after_4]
    exact .rfl

/-- Window 5 is left as promised at a later point when it holds the scale. -/
theorem leaves_5 (c : Dev nD) (t : Fin cfg0.N) (ht : ¬ t.val % 19 = 0) :
    owns (c : Thread nD τ) (st0_5 t) fullShare (scaleOf (toks m c)) ⊢ ((dats m 0 c).leavesExact 5 t : sProp 𝕄) := by
  have hid : cfg0.idle 5 (grid0.coords t) = true := by
    show (!(k0_cond1 (grid0.coords t) == 1#1)) = true
    rw [Bool.not_eq_true', beq_eq_false_iff_ne]
    exact fun h => ht ((first_iff t).mp h)
  unfold Dat.leavesExact
  rw [hid]
  cases hf : (cfg0.win 5).flush t
  · simp only [before_5 m c t ht]
    iintro H
    iexists (fun _ => default)
    iexact H
  · simp only [after_5]
    exact .rfl

set_option maxHeartbeats 1600000 in
/-- The body at the first point. -/
theorem sound_first (c : Dev nD) (t : Fin cfg0.N) (h0 : t.val % 19 = 0) :
    bodyPre m c t ⊢ wp frame (wpE (defs₀ (F := F)) Variants.none c none) Set.univ (bodyAt0 t) (fun _ => bodyPost m c t) := by
  have hN : t.val < 19 := lt_of_lt_of_eq t.isLt (show cfg0.N = 19 from N_0)
  obtain rfl : t = pt0 := Fin.ext (by show t.val = 0; omega)
  have l4 : cfg0.idle 4 (grid0.coords pt0) = false := by
    show (!(k0_cond1 (grid0.coords pt0) == 1#1)) = false
    rw [(first_iff pt0).mpr h0]; rfl
  have l5 : cfg0.idle 5 (grid0.coords pt0) = false := l4
  unfold bodyPre bodyPost bodyAt0
  simp only [before_0, before_1, before_2]
  rw [leaves_live m c 0 pt0 rfl, leaves_live m c 1 pt0 rfl, leaves_live m c 2 pt0 rfl, leaves_live m c 3 pt0 rfl,
    leaves_live m c 4 pt0 l4, leaves_live m c 5 pt0 l5, after_0, after_1, after_2, after_3, after_4, after_5,
    show (dats m 0 c).owesAt () pt0.succ = (dats m 0 c).owesAt () pt0.castSucc from rfl,
    show (dats m 0 c).Φ pt0.castSucc = Pipeline.ΦA spec0 c from rfl, lent_eq,
    show (dats m 0 c).Φ pt0.succ = iprop(iprop(owns (c : Thread nD τ) scM0 fullShare (xPerm (codesOf (toks m c))) ∗ owns (c : Thread nD τ) scM1 fullShare (scalesOf (toks m c))) ∗ (∃ r, prngReg c r)) from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (runA c (grid0.coords pt0) _ _ _ _ _ _ _ _ _ _ _ _ _ _ _ _ ((first_iff pt0).mpr h0) (iblk m c 0 pt0) (iblk m c 1 pt0) (iblk m c 2 pt0) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The body at a later point. -/
theorem sound_later (c : Dev nD) (t : Fin cfg0.N) (h0 : ¬ t.val % 19 = 0) :
    bodyPre m c t ⊢ wp frame (wpE (defs₀ (F := F)) Variants.none c none) Set.univ (bodyAt0 t) (fun _ => bodyPost m c t) := by
  have e1 : (dats m 0 c).Φ t.castSucc = iprop(iprop(owns (c : Thread nD τ) scM0 fullShare (xPerm (codesOf (toks m c))) ∗ owns (c : Thread nD τ) scM1 fullShare (scalesOf (toks m c))) ∗ (∃ r, prngReg c r)) := by
    show between m c t.val = _
    obtain ⟨n, hn⟩ : ∃ n, t.val = n + 1 := ⟨t.val - 1, by omega⟩
    rw [hn]; rfl
  unfold bodyPre bodyPost bodyAt0
  simp only [before_0, before_1, before_2, before_4 m c t h0, before_5 m c t h0]
  rw [leaves_live m c 0 t rfl, leaves_live m c 1 t rfl, leaves_live m c 2 t rfl, leaves_live m c 3 t rfl,
    after_0, after_1, after_2, after_3,
    show (dats m 0 c).owesAt () t.succ = (dats m 0 c).owesAt () t.castSucc from rfl, e1,
    show (dats m 0 c).Φ t.succ = iprop(iprop(owns (c : Thread nD τ) scM0 fullShare (xPerm (codesOf (toks m c))) ∗ owns (c : Thread nD τ) scM1 fullShare (scalesOf (toks m c))) ∗ (∃ r, prngReg c r)) from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (runB c (grid0.coords t) _ _ _ _ _ _ _ _ _ _ _ _ _ _ _ _ (fun h => h0 ((first_iff t).mp h)) (iblk m c 0 t) (iblk m c 1 t) (iblk m c 2 t)
    (codesOf (toks m c)) (scaleOf (toks m c)) (xPerm (codesOf (toks m c))) (scalesOf (toks m c)) Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]
  · iapply (leaves_4 m c t h0); iexact H4
  iapply (leaves_5 m c t h0); iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 19 = 0
  · exact sound_first m c t h0
  · exact sound_later m c t h0

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body keeps the region's contract at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the end the scratch buffers go back with whatever they hold. -/
theorem give_back (c : Dev nD) : (dats m 0 c).Φ (Fin.last cfg0.N) ⊢ (Pipeline.ΦA spec0 c : sProp 𝕄) := by
  rw [lent_eq, show (dats m 0 c).Φ (Fin.last cfg0.N) = iprop(iprop(owns (c : Thread nD τ) scM0 fullShare (xPerm (codesOf (toks m c))) ∗ owns (c : Thread nD τ) scM1 fullShare (scalesOf (toks m c))) ∗ (∃ r, prngReg c r)) from by
    show between m c cfg0.N = _
    rw [show cfg0.N = 18 + 1 from N_0]; rfl]
  iintro ⟨⟨HS0, HS1⟩, Hg⟩
  isplitl [HS0 HS1]
  · isplitl [HS0]
    · iexists _; iexact HS0
    iexists _; iexact HS1
  iexact Hg

-- the launch theorem's implicit arguments are found by unfolding plain definitions in a metavariable's type
set_option backward.isDefEq.respectTransparency.types false in
set_option maxHeartbeats 800000 in
/-- Every run of the kernel ends, with every array at what the proof data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := give_back m)

/-- The kernel leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Kernel.Group.lean ====
module

public import proofs.«01_k».proof.Proof.Gen.Kernel.Skeleton
public import Idealize.ShloMosaic.Lib.Pointwise
public import Idealize.ShloMosaic.Lib.BitcastFour
public import Idealize.ShloMosaic.Lib.Pipeline.FrameBody
public import Idealize.ShloMosaic.Lib.Pipeline.Value

@[expose] public section

noncomputable section

namespace Cert.Kernel.Hand

open Cert.Kernel.Gen
open Idealize.ShloMosaic Idealize.SL.Sem

variable {F : FTy → Type} [FloatOps F]

/-- The packed bytes read as words, four rows to a word, with the top bit of every nibble turned: each nibble is then its signed value plus eight. -/
def biased (wv : Vec F S64x256 .i8) : IVec S16x256 32 :=
  xori (bitcast S16x256 32 wv bitcasts_S64x256_w8_S16x256_w32) (broadcast S16x256 2290649224#32)

/-- The low nibbles of the biased bytes. -/
def loWords (wv : Vec F S64x256 .i8) : IVec S16x256 32 := andi (biased wv) (broadcast S16x256 252645135#32)

/-- The high nibbles of the biased bytes. -/
def hiWords (wv : Vec F S64x256 .i8) : IVec S16x256 32 :=
  andi (shrui (biased wv) (broadcast S16x256 4#32)) (broadcast S16x256 252645135#32)

/-- Words read as four rows of fp8 values each. -/
def asF8 (w : IVec S16x256 32) : FVec F S64x256 .fp8e4m3 :=
  bitcastToFloat .fp8e4m3 (bitcast S64x256 8 w bitcasts_S16x256_w32_S64x256_w8)

/-- The right operand of one group's product: the low nibbles, the high nibbles, and rows that hold minus eight units to take the bias away. -/
def decoded (wv : Vec F S64x256 .i8) : FVec F S256x256 .fp8e4m3 :=
  concatenate S256x256 0 [⟨S64x256, asF8 (loWords wv)⟩, ⟨S64x256, asF8 (hiWords wv)⟩, ⟨S128x256, k0_pay39 (F := F)⟩]
    concatenates_S64x256_S64x256_S128x256_S256x256_d0

/-- One group: the codes twice over times the right operand, times the group's scales, added to the sum so far. -/
def gstep (acc : FVec F S192x256 .f32) (wv : Vec F S64x256 .i8) (xg : Vec F S192x128 .fp8e4m3) (sv : Vec F S1x256 .f32) :
    FVec F S192x256 .f32 :=
  addf acc (mulf
    (matmul dot_S192x256_S256x256_S192x256_1_0_0_1_n_n none
      (concatenate S192x256 1 [⟨S192x128, xg⟩, ⟨S192x128, xg⟩] concatenates_S192x128_S192x128_S192x256_d1 : FVec F S192x256 .fp8e4m3)
      (decoded wv) (constant S192x256 .f32 0x00000000#32))
    (broadcastTo S192x256 sv broadcasts_S1x256_S192x256))

/-- The sum over the first `n` groups, group by group. -/
def accum (W : Fin 28 → Vec F S64x256 .i8) (X : Fin 28 → Vec F S192x128 .fp8e4m3) (S : Fin 28 → Vec F S1x256 .f32) :
    (n : ℕ) → n ≤ 28 → FVec F S192x256 .f32
  | 0, _ => constant S192x256 .f32 0x00000000#32
  | n + 1, h => gstep (accum W X S n (Nat.le_of_succ_le h)) (W ⟨n, h⟩) (X ⟨n, h⟩) (S ⟨n, h⟩)

/-- One stored tile: the sum over all groups, scaled back and by the tokens' scales. -/
def tileOf (W : Fin 28 → Vec F S64x256 .i8) (X : Fin 28 → Vec F S192x128 .fp8e4m3) (S : Fin 28 → Vec F S1x256 .f32)
    (xs : Vec F S192x128 .f32) : FVec F S192x256 .bf16 :=
  truncf .bf16 (mulf (mulf (accum W X S 28 (Nat.le_refl _)) (broadcast S192x256 (Scalar.ofBits .f32 0x44000000#32)))
    (concatenate S192x256 1 [⟨S192x128, xs⟩, ⟨S192x128, xs⟩] concatenates_S192x128_S192x128_S192x256_d1 : FVec F S192x256 .f32)) bitsLt_bf16_f32

/-- The rectangle of group `g`'s bytes for tile `k`. -/
def wRect (k : Fin 4) (g : Fin 28) : Rect S1792x1024 := Rect.unit ![64 * g.val, 256 * k.val] ![64, 256] (by
  intro a
  match a with
  | ⟨0, _⟩ => show 64 * g.val + 64 ≤ 1792; omega
  | ⟨1, _⟩ => show 256 * k.val + 256 ≤ 1024; omega)

/-- The rectangle of group `g`'s scales for tile `k`. -/
def sRect (k : Fin 4) (g : Fin 28) : Rect S28x1024 := Rect.unit ![g.val, 256 * k.val] ![1, 256] (by
  intro a
  match a with
  | ⟨0, _⟩ => show g.val + 1 ≤ 28; omega
  | ⟨1, _⟩ => show 256 * k.val + 256 ≤ 1024; omega)

/-- The rectangle of group `g`'s codes. -/
def xRect (g : Fin 28) : Rect S192x3584 := Rect.unit ![0, 128 * g.val] ![192, 128] (by
  intro a
  match a with
  | ⟨0, _⟩ => show 0 + 192 ≤ 192; omega
  | ⟨1, _⟩ => show 128 * g.val + 128 ≤ 3584; omega)

/-- The rectangle of tile `k` in a block of results. -/
def yRect (k : Fin 4) : Rect S192x1024 := Rect.unit ![0, 256 * k.val] ![192, 256] (by
  intro a
  match a with
  | ⟨0, _⟩ => show 0 + 192 ≤ 192; omega
  | ⟨1, _⟩ => show 256 * k.val + 256 ≤ 1024; omega)

/-- The rectangle of block `b` of 256 codes. -/
def cRect (b : Fin 14) : Rect S192x3584 := Rect.unit ![0, 256 * b.val] ![192, 256] (by
  intro a
  match a with
  | ⟨0, _⟩ => show 0 + 192 ≤ 192; omega
  | ⟨1, _⟩ => show 256 * b.val + 256 ≤ 3584; omega)

/-- Tile `k` of a block of results, from what the block's operands hold. -/
def tile (x1 : Vec F S1792x1024 .i8) (x2 : Vec F S28x1024 .f32) (xp : Vec F S192x3584 .fp8e4m3) (xs : Vec F S192x128 .f32) (k : Fin 4) :
    FVec F S192x256 .bf16 :=
  tileOf (fun g => View.ld x1 (wRect k g)) (fun g => View.ld xp (xRect g)) (fun g => View.ld x2 (sRect k g))
    (View.ld xs (Rect.unit ![0, 0] S192x128.size inb_S192x128_S192x128_0_0))

/-- A block of results: its four tiles, the last stored first in the list. -/
def yPieces (x1 : Vec F S1792x1024 .i8) (x2 : Vec F S28x1024 .f32) (xp : Vec F S192x3584 .fp8e4m3) (xs : Vec F S192x128 .f32) :
    List (View.Piece (Elt F) S192x1024 .bf16) :=
  [⟨yRect 3, tile x1 x2 xp xs 3⟩, ⟨yRect 2, tile x1 x2 xp xs 2⟩, ⟨yRect 1, tile x1 x2 xp xs 1⟩, ⟨yRect 0, tile x1 x2 xp xs 0⟩]

/-- A block of results. -/
def yBlock (x1 : Vec F S1792x1024 .i8) (x2 : Vec F S28x1024 .f32) (xp : Vec F S192x3584 .fp8e4m3) (xs : Vec F S192x128 .f32) :
    Vec F S192x1024 .bf16 := View.canon (yPieces x1 x2 xp xs)

/-- Block `b` of the permuted codes. -/
def xBlock (codes : Vec F S192x3584 .fp8e4m3) (b : Fin 14) : FVec F S192x256 .fp8e4m3 :=
  k0_pay24 k0_pay21 (Scalar.ofBits .f32 0x3F800000#32) (Scalar.ofBits .f32 0x00000000#32) (View.ld codes (cRect b))

/-- The permuted codes' fourteen blocks, the last stored first in the list. -/
def xPieces (codes : Vec F S192x3584 .fp8e4m3) : List (View.Piece (Elt F) S192x3584 .fp8e4m3) :=
  [⟨cRect 13, xBlock codes 13⟩, ⟨cRect 12, xBlock codes 12⟩, ⟨cRect 11, xBlock codes 11⟩, ⟨cRect 10, xBlock codes 10⟩,
   ⟨cRect 9, xBlock codes 9⟩, ⟨cRect 8, xBlock codes 8⟩, ⟨cRect 7, xBlock codes 7⟩, ⟨cRect 6, xBlock codes 6⟩,
   ⟨cRect 5, xBlock codes 5⟩, ⟨cRect 4, xBlock codes 4⟩, ⟨cRect 3, xBlock codes 3⟩, ⟨cRect 2, xBlock codes 2⟩,
   ⟨cRect 1, xBlock codes 1⟩, ⟨cRect 0, xBlock codes 0⟩]

/-- The permuted codes. -/
def xPerm (codes : Vec F S192x3584 .fp8e4m3) : Vec F S192x3584 .fp8e4m3 := View.canon (xPieces codes)

/-- The four tiles cover the block. -/
theorem yPieces_cover (x1 : Vec F S1792x1024 .i8) (x2 : Vec F S28x1024 .f32) (xp : Vec F S192x3584 .fp8e4m3) (xs : Vec F S192x128 .f32) (y : S192x1024.Idx) :
    ∃ p ∈ yPieces x1 x2 xp xs, y ∈ p.1.set := by
  have hk : (y 1).val / 256 < 4 := by have := (y 1).isLt; change (y 1).val < 1024 at this; omega
  have hm : y ∈ (yRect ⟨(y 1).val / 256, hk⟩).set := by
    refine Rect.mem_set_unit.mpr fun a => ?_
    match a with
    | ⟨0, _⟩ => exact ⟨Nat.zero_le _, by have := (y 0).isLt; exact this⟩
    | ⟨1, _⟩ => show 256 * ((y 1).val / 256) ≤ (y 1).val ∧ (y 1).val < 256 * ((y 1).val / 256) + 256; omega
  generalize (⟨(y 1).val / 256, hk⟩ : Fin 4) = k at hm
  refine ⟨⟨yRect k, tile x1 x2 xp xs k⟩, ?_, hm⟩
  unfold yPieces
  fin_cases k <;> simp

/-- The fourteen blocks cover the codes. -/
theorem xPieces_cover (codes : Vec F S192x3584 .fp8e4m3) (y : S192x3584.Idx) : ∃ p ∈ xPieces codes, y ∈ p.1.set := by
  have hk : (y 1).val / 256 < 14 := by have := (y 1).isLt; change (y 1).val < 3584 at this; omega
  have hm : y ∈ (cRect ⟨(y 1).val / 256, hk⟩).set := by
    refine Rect.mem_set_unit.mpr fun a => ?_
    match a with
    | ⟨0, _⟩ => exact ⟨Nat.zero_le _, by have := (y 0).isLt; exact this⟩
    | ⟨1, _⟩ => show 256 * ((y 1).val / 256) ≤ (y 1).val ∧ (y 1).val < 256 * ((y 1).val / 256) + 256; omega
  generalize (⟨(y 1).val / 256, hk⟩ : Fin 14) = k at hm
  refine ⟨⟨cRect k, xBlock codes k⟩, ?_, hm⟩
  unfold xPieces
  fin_cases k <;> simp

end Cert.Kernel.Hand

end
-- ==== Proof.Kernel.Quant.lean ====
module

public import proofs.«01_k».proof.Proof.Kernel.Group

@[expose] public section

noncomputable section

namespace Cert.Kernel.Hand

open Cert.Kernel.Gen
open Idealize.ShloMosaic Idealize.SL.Sem

variable {F : FTy → Type} [FloatOps F]

/-- The floats whose words have the exponent field `k + 127` and no mantissa. -/
def wordPow (k : IVec S192x1 32) : FVec F S192x1 .f32 :=
  bitcastToFloat .f32 (shli (addi k (broadcast S192x1 127#32)) (broadcast S192x1 23#32))

/-- Two to the power `e`, as the product of two such floats. -/
def pow2 (e : IVec S192x1 32) : FVec F S192x1 .f32 :=
  mulf (wordPow (shrsi e (broadcast S192x1 1#32))) (wordPow (subi e (shrsi e (broadcast S192x1 1#32))))

/-- One step of the search for the exponent: `k + s` where `v` is at least two to that power. -/
def bisect (v : FVec F S192x1 .f32) (s : BitVec 32) (k : IVec S192x1 32) : IVec S192x1 32 :=
  select (cmpf .oge v (pow2 (addi k (broadcast S192x1 s)))) (addi k (broadcast S192x1 s)) k

/-- The search, from -126 by steps that halve from 128. -/
def search (v : FVec F S192x1 .f32) : IVec S192x1 32 :=
  bisect v 1#32 (bisect v 2#32 (bisect v 4#32 (bisect v 8#32 (bisect v 16#32 (bisect v 32#32 (bisect v 64#32 (bisect v 128#32
    (broadcast S192x1 4294967170#32))))))))

/-- Which tokens have a value in the normal range. -/
def normal (v : FVec F S192x1 .f32) : IVec S192x1 1 :=
  andi (cmpf .oge v (broadcast S192x1 (Scalar.ofBits .f32 0x00800000#32))) (cmpf .ole v (broadcast S192x1 (Scalar.ofBits .f32 0x7F7FFFFF#32)))

/-- The exponents of the tokens' scales. -/
def expo (x : Vec F S192x3584 .bf16) : IVec S192x1 32 :=
  select (cmpf .oeq (k0_pay2 x) (broadcast S192x1 (Scalar.ofBits .f32 0x00000000#32))) (broadcast S192x1 0#32)
    (select (normal (k0_pay3 x)) (addi (search (k0_pay3 x)) (broadcast S192x1 1#32)) (broadcast S192x1 0#32))

/-- The tokens' scales. -/
def scaleV (x : Vec F S192x3584 .bf16) : FVec F S192x1 .f32 := pow2 (expo x)

/-- The codes. -/
def codesV (x : Vec F S192x3584 .bf16) : FVec F S192x3584 .fp8e4m3 :=
  truncf .fp8e4m3 (minimumf (broadcast S192x3584 (Scalar.ofBits .f32 0x43E00000#32))
    (maximumf (broadcast S192x3584 (Scalar.ofBits .f32 0xC3E00000#32))
      (mulf (k0_pay1 x) (broadcastTo S192x3584 (pow2 (subi (broadcast S192x1 0#32) (expo x))) broadcasts_S192x1_S192x3584)))) bitsLt_fp8e4m3_f32

/-- What a load of all tokens reads. -/
def xAll (x0 : Vec F S192x3584 .bf16) : Vec F S192x3584 .bf16 :=
  View.ld x0 (Rect.unit ![0, 0] S192x3584.size inb_S192x3584_S192x3584_0_0)

/-- The one store of the codes. -/
def codesPieces (x0 : Vec F S192x3584 .bf16) : List (View.Piece (Elt F) S192x3584 .fp8e4m3) :=
  [⟨Rect.unit ![0, 0] S192x3584.size inb_S192x3584_S192x3584_0_0, codesV (xAll x0)⟩]

/-- The one store of the scales. -/
def scalePieces (x0 : Vec F S192x3584 .bf16) : List (View.Piece (Elt F) S192x1 .f32) :=
  [⟨Rect.unit ![0, 0] S192x1.size inb_S192x1_S192x1_0_0, scaleV (xAll x0)⟩]

/-- The one store of the scales spread over the lanes. -/
def scalesPieces (x0 : Vec F S192x3584 .bf16) : List (View.Piece (Elt F) S192x128 .f32) :=
  [⟨Rect.unit ![0, 0] S192x128.size inb_S192x128_S192x128_0_0, k0_pay20 (scaleV (xAll x0))⟩]

/-- The codes of the tokens `x0`. -/
def codesOf (x0 : Vec F S192x3584 .bf16) : Vec F S192x3584 .fp8e4m3 := View.canon (codesPieces x0)

/-- The scales of the tokens `x0`. -/
def scaleOf (x0 : Vec F S192x3584 .bf16) : Vec F S192x1 .f32 := View.canon (scalePieces x0)

/-- The scales of the tokens `x0`, spread over the lanes. -/
def scalesOf (x0 : Vec F S192x3584 .bf16) : Vec F S192x128 .f32 := View.canon (scalesPieces x0)

/-- A rectangle of a shape's own sizes at the origin holds every index. -/
theorem mem_all {s : Shape} {off : Fin s.rank → ℕ} (h : off = fun _ => 0) (inb : ∀ a, off a + s.size a ≤ s.size a) (y : s.Idx) :
    y ∈ (Rect.unit off s.size inb).set := by
  subst h
  exact Rect.mem_set_unit.mpr fun a => ⟨Nat.zero_le _, by rw [Nat.zero_add]; exact (y a).isLt⟩

/-- The store of the codes covers the array. -/
theorem codesPieces_cover (x0 : Vec F S192x3584 .bf16) (y : S192x3584.Idx) : ∃ p ∈ codesPieces x0, y ∈ p.1.set :=
  ⟨_, List.mem_singleton.mpr rfl, mem_all (by funext a; fin_cases a <;> rfl) inb_S192x3584_S192x3584_0_0 y⟩

/-- The store of the scales covers the array. -/
theorem scalePieces_cover (x0 : Vec F S192x3584 .bf16) (y : S192x1.Idx) : ∃ p ∈ scalePieces x0, y ∈ p.1.set :=
  ⟨_, List.mem_singleton.mpr rfl, mem_all (by funext a; fin_cases a <;> rfl) inb_S192x1_S192x1_0_0 y⟩

/-- The store of the spread scales covers the array. -/
theorem scalesPieces_cover (x0 : Vec F S192x3584 .bf16) (y : S192x128.Idx) : ∃ p ∈ scalesPieces x0, y ∈ p.1.set :=
  ⟨_, List.mem_singleton.mpr rfl, mem_all (by funext a; fin_cases a <;> rfl) inb_S192x128_S192x128_0_0 y⟩

/-- The canon of one piece of the whole shape at the origin is its payload. -/
theorem canon_all {e : EltTy} {s : Shape} {off : Fin s.rank → ℕ} (h : off = fun _ => 0) (inb : ∀ a, off a + s.size a ≤ s.size a)
    (w : s.Idx → Elt F e) : View.canon [(⟨Rect.unit off s.size inb, w⟩ : View.Piece (Elt F) s e)] = w := by
  funext y
  refine View.canon_apply_of_pieces w _ ?_ y ⟨_, List.mem_singleton.mpr rfl, mem_all h inb y⟩
  intro p hp x
  obtain rfl := List.mem_singleton.mp hp
  refine congrArg w (funext fun a => Fin.ext ?_)
  subst h
  show (x a).val = 0 + 1 * (x a).val
  omega

/-- A load of all tokens reads the tokens. -/
theorem xAll_eq (x0 : Vec F S192x3584 .bf16) : xAll x0 = x0 := by
  funext y
  refine congrArg x0 (funext fun a => Fin.ext ?_)
  fin_cases a <;> (show 0 + 1 * _ = _; omega)

/-- What the store of the codes leaves is the codes. -/
theorem codesOf_eq (x0 : Vec F S192x3584 .bf16) : codesOf x0 = codesV x0 := by
  unfold codesOf codesPieces
  rw [xAll_eq]
  exact canon_all (by funext a; fin_cases a <;> rfl) _ _

/-- What the store of the scales leaves is the scales. -/
theorem scaleOf_eq (x0 : Vec F S192x3584 .bf16) : scaleOf x0 = scaleV x0 := by
  unfold scaleOf scalePieces
  rw [xAll_eq]
  exact canon_all (by funext a; fin_cases a <;> rfl) _ _

/-- What the store of the spread scales leaves is the spread scales. -/
theorem scalesOf_eq (x0 : Vec F S192x3584 .bf16) : scalesOf x0 = k0_pay20 (scaleV x0) := by
  unfold scalesOf scalesPieces
  rw [xAll_eq]
  exact canon_all (by funext a; fin_cases a <;> rfl) _ _

end Cert.Kernel.Hand

end
-- ==== Proof.Kernel.RunB.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Kernel.Group
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3000000 in
/-- The body at a grid point other than the first: it reads the permuted codes and the spread scales that the first point
    left, stores the block of results, and leaves all else as it was. -/
theorem runB (c : Dev nD) (i : grid0.Coords) (arg1 : Memref sig .tc .vmem S192x3584 .bf16) (harg1 : arg1.IsWhole) (arg2 : Memref sig .tc .vmem S1792x1024 .i8) (harg2 : arg2.IsWhole) (arg3 : Memref sig .tc .vmem S28x1024 .f32) (harg3 : arg3.IsWhole) (arg4 : Memref sig .tc .vmem S192x1024 .bf16) (harg4 : arg4.IsWhole) (arg5 : Memref sig .tc .vmem S192x3584 .fp8e4m3) (harg5 : arg5.IsWhole) (arg6 : Memref sig .tc .vmem S192x1 .f32) (harg6 : arg6.IsWhole) (arg7 : Memref sig .tc .vmem S192x3584 .fp8e4m3) (harg7 : arg7.IsWhole) (arg8 : Memref sig .tc .vmem S192x128 .f32) (harg8 : arg8.IsWhole) (hc0 : ¬k0_cond1 i = 1#1)
    (x0 : Vec F S192x3584 .bf16) (x1 : Vec F S1792x1024 .i8) (x2 : Vec F S28x1024 .f32) (d4 : Vec F S192x3584 .fp8e4m3) (d5 : Vec F S192x1 .f32) (xp : Vec F S192x3584 .fp8e4m3) (xs : Vec F S192x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare d4 ∗ owns (c : Thread nD τ) arg6 fullShare d5 ∗ owns (c : Thread nD τ) arg7 fullShare xp ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare (yBlock x1 x2 xp xs) ∗ owns (c : Thread nD τ) arg5 fullShare d4 ∗ owns (c : Thread nD τ) arg6 fullShare d5 ∗ owns (c : Thread nD τ) arg7 fullShare xp ∗ owns (c : Thread nD τ) arg8 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    simp only [k0_part69_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    subst hf0 hf1 hf2 hf4 hf5 hfs0 hfs1
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; swap; · iexact H3
      ipureintro
      refine Eq.trans (congrArg (fun L => View.read (Elt F) arg4.view (arg4.view.writes (Elt F) f3 L)) ?_)
        (View.read_writes_eq_canon _ _ _ (yPieces_cover _ _ _ _))
      rfl
    isplitl [H4]
    · iexists _; isplitr; · ipureintro; rfl
      iexact H4
    isplitl [H5]
    · iexists _; isplitr; · ipureintro; rfl
      iexact H5
    isplitl [HS0]
    · iexists _; isplitr; · ipureintro; rfl
      iexact HS0
    iexists _; isplitr; · ipureintro; rfl
    iexact HS1

end Cert.Kernel.Hand

end
-- ==== Proof.Kernel.RunA.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Kernel.Quant
public import proofs.«01_k».proof.Proof.Kernel.RunB
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3000000 in
/-- The body at the first point: it leaves the codes and the scales of the tokens in their windows and in the scratch buffers, and the block of results. -/
theorem runA (c : Dev nD) (i : grid0.Coords) (arg1 : Memref sig .tc .vmem S192x3584 .bf16) (harg1 : arg1.IsWhole) (arg2 : Memref sig .tc .vmem S1792x1024 .i8) (harg2 : arg2.IsWhole) (arg3 : Memref sig .tc .vmem S28x1024 .f32) (harg3 : arg3.IsWhole) (arg4 : Memref sig .tc .vmem S192x1024 .bf16) (harg4 : arg4.IsWhole) (arg5 : Memref sig .tc .vmem S192x3584 .fp8e4m3) (harg5 : arg5.IsWhole) (arg6 : Memref sig .tc .vmem S192x1 .f32) (harg6 : arg6.IsWhole) (arg7 : Memref sig .tc .vmem S192x3584 .fp8e4m3) (harg7 : arg7.IsWhole) (arg8 : Memref sig .tc .vmem S192x128 .f32) (harg8 : arg8.IsWhole) (hc0 : k0_cond1 i = 1#1)
    (x0 : Vec F S192x3584 .bf16) (x1 : Vec F S1792x1024 .i8) (x2 : Vec F S28x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare (yBlock x1 x2 (xPerm (codesOf x0)) (scalesOf x0)) ∗ owns (c : Thread nD τ) arg5 fullShare (codesOf x0) ∗ owns (c : Thread nD τ) arg6 fullShare (scaleOf x0) ∗ owns (c : Thread nD τ) arg7 fullShare (xPerm (codesOf x0)) ∗ owns (c : Thread nD τ) arg8 fullShare (scalesOf x0)) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    simp only [k0_part69_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    subst hf0 hf1 hf2
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    have e5 : View.read (Elt F) arg5.view (arg5.view.writes (Elt F) arg5.view.junk (codesPieces (View.read (Elt F) arg1.view f0))) = codesOf (View.read (Elt F) arg1.view f0) :=
      View.read_writes_eq_canon _ _ _ (codesPieces_cover _)
    have e8 : View.read (Elt F) arg8.view (arg8.view.writes (Elt F) arg8.view.junk (scalesPieces (View.read (Elt F) arg1.view f0))) = scalesOf (View.read (Elt F) arg1.view f0) :=
      View.read_writes_eq_canon _ _ _ (scalesPieces_cover _)
    have e7 : View.read (Elt F) arg7.view (arg7.view.writes (Elt F) arg7.view.junk
        (xPieces (View.read (Elt F) arg5.view (arg5.view.writes (Elt F) arg5.view.junk (codesPieces (View.read (Elt F) arg1.view f0)))))) = xPerm (codesOf (View.read (Elt F) arg1.view f0)) := by
      rw [e5]; exact View.read_writes_eq_canon _ _ _ (xPieces_cover _)
    isplitl [H3]
    · iexists _; isplitr; swap; · iexact H3
      ipureintro
      rw [← e7, ← e8]
      refine Eq.trans (congrArg (fun L => View.read (Elt F) arg4.view (arg4.view.writes (Elt F) f3 L)) ?_)
        (View.read_writes_eq_canon _ _ _ (yPieces_cover _ _ _ _))
      rfl
    isplitl [H4]
    · iexists _; isplitr; swap; · iexact H4
      ipureintro
      refine Eq.trans (congrArg (fun L => View.read (Elt F) arg5.view (arg5.view.writes (Elt F) f4 L)) ?_)
        (View.read_writes_eq_canon _ _ _ (codesPieces_cover _))
      rfl
    isplitl [H5]
    · iexists _; isplitr; swap; · iexact H5
      ipureintro
      refine Eq.trans (congrArg (fun L => View.read (Elt F) arg6.view (arg6.view.writes (Elt F) f5 L)) ?_)
        (View.read_writes_eq_canon _ _ _ (scalePieces_cover _))
      rfl
    isplitl [HS0]
    · iexists _; isplitr; swap; · iexact HS0
      ipureintro
      rw [← e5]
      refine Eq.trans (congrArg (fun L => View.read (Elt F) arg7.view (arg7.view.writes (Elt F) fs0 L)) ?_)
        (View.read_writes_eq_canon _ _ _ (xPieces_cover _))
      rfl
    iexists _; isplitr; swap; · iexact HS1
    ipureintro
    refine Eq.trans (congrArg (fun L => View.read (Elt F) arg8.view (arg8.view.writes (Elt F) fs1 L)) ?_)
      (View.read_writes_eq_canon _ _ _ (scalesPieces_cover _))
    rfl

end Cert.Kernel.Hand

end
-- ==== Proof.Kernel.Launch.lean ====
module

public import proofs.«01_k».proof.Proof.Kernel.RunA
public import Idealize.ShloMosaic.Lib.Pipeline.Frame
public import Idealize.ShloMosaic.Lib.Pipeline.TableIdle
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at the first grid point only. -/
theorem first_iff : ∀ t : Fin cfg0.N, k0_cond1 (grid0.coords t) = 1#1 ↔ t.val % 19 = 0 :=
  (fun t => by
    have ht : t.val < 19 := Nat.lt_of_lt_of_eq t.isLt N_0
    have e0 : (grid0.coords t 0).val = t.val / 1 % 19 := Pipeline.Grid.coords_val t 0 (by decide) rfl
    simp only [k0_cond1, e0]
    word_cmp
   : ∀ t : Fin grid0.N, k0_cond1 (grid0.coords t) = 1#1 ↔ t.val % 19 = 0)

/-- The first grid point. -/
abbrev pt0 : Fin cfg0.N := ⟨0, lt_of_lt_of_eq (by decide) (show 19 = cfg0.N from N_0.symm)⟩

/-- The tokens, as the first grid point finds them in window 0. -/
abbrev toks (c : Dev nD) : Vec F S192x3584 .bf16 := iblk m c 0 pt0

/-- The scratch buffer of permuted codes. -/
abbrev scM0 : Memref sig .tc .vmem S192x3584 .fp8e4m3 := Memref.whole cc0_scratch0
/-- The scratch buffer of scales. -/
abbrev scM1 : Memref sig .tc .vmem S192x128 .f32 := Memref.whole cc0_scratch1

/-- What the region lends the body, spelled over the two scratch buffers and the generator register. -/
theorem lent_eq (c : Dev nD) : Pipeline.ΦA (Val := Elt F) spec0 c
    = (iprop(iprop((∃ d, owns (c : Thread nD τ) scM0 fullShare d) ∗ (∃ d, owns (c : Thread nD τ) scM1 fullShare d)) ∗ (∃ r, prngReg c r)) : sProp 𝕄) := by
  unfold Pipeline.ΦA
  rw [scopedRest0_eq]
  simp only [scM0, scM1, owns_whole]
  try rfl

/-- What holds between grid points: before the first one the scratch buffers hold anything; later they hold the
    permuted codes of the tokens and their scales. -/
def between (c : Dev nD) : ℕ → sProp 𝕄
  | 0 => Pipeline.ΦA spec0 c
  | _ + 1 => iprop(iprop(owns (c : Thread nD τ) scM0 fullShare (xPerm (codesOf (toks m c))) ∗ owns (c : Thread nD τ) scM1 fullShare (scalesOf (toks m c))) ∗ (∃ r, prngReg c r))

/-- The proof data of the region: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlock (iblk m c 1 t) (iblk m c 2 t) (xPerm (codesOf (toks m c))) (scalesOf (toks m c))
    | ⟨4, _⟩ => codesOf (toks m c)
    | ⟨5, _⟩ => scaleOf (toks m c)
  Φ t := between m c t.val
  q _ := fullShare
  owed _ := 0

/-- The arrays are those the region finds. -/
theorem A_eq (c : Dev nD) (w : Fin cfg0.W) : (dats m 0 c).A w = V m c (Pipeline.arrRef spec0 w) := by
  dsimp only [dats]

/-- Window 0 keeps its block. -/
theorem after_0 (c : Dev nD) (t : Fin cfg0.N) : (dats m 0 c).after 0 t = iblk m c 0 t := by dsimp only [dats]
/-- Window 1 keeps its block. -/
theorem after_1 (c : Dev nD) (t : Fin cfg0.N) : (dats m 0 c).after 1 t = iblk m c 1 t := by dsimp only [dats]
/-- Window 2 keeps its block. -/
theorem after_2 (c : Dev nD) (t : Fin cfg0.N) : (dats m 0 c).after 2 t = iblk m c 2 t := by dsimp only [dats]
/-- Window 3 ends with the block of products. -/
theorem after_3 (c : Dev nD) (t : Fin cfg0.N) : (dats m 0 c).after 3 t
    = yBlock (iblk m c 1 t) (iblk m c 2 t) (xPerm (codesOf (toks m c))) (scalesOf (toks m c)) := by dsimp only [dats]
/-- Window 4 ends with the codes. -/
theorem after_4 (c : Dev nD) (t : Fin cfg0.N) : (dats m 0 c).after 4 t = codesOf (toks m c) := by dsimp only [dats]
/-- Window 5 ends with the scale. -/
theorem after_5 (c : Dev nD) (t : Fin cfg0.N) : (dats m 0 c).after 5 t = scaleOf (toks m c) := by dsimp only [dats]

/-- Window 0 holds its block before each point. -/
theorem before_0 (c : Dev nD) (t : Fin cfg0.N) (d) : (dats m 0 c).before 0 t d = iblk m c 0 t :=
  before0_0_of m (dats m 0 c) (A_eq m c 0) (after_0 m c) t d
/-- Window 1 holds its block before each point. -/
theorem before_1 (c : Dev nD) (t : Fin cfg0.N) (d) : (dats m 0 c).before 1 t d = iblk m c 1 t :=
  before0_1_of m (dats m 0 c) (A_eq m c 1) (after_1 m c) t d
/-- Window 2 holds its block before each point. -/
theorem before_2 (c : Dev nD) (t : Fin cfg0.N) (d) : (dats m 0 c).before 2 t d = iblk m c 2 t :=
  before0_2_of m (dats m 0 c) (A_eq m c 2) (after_2 m c) t d

/-- Window 4's buffer is fresh before the first point only. -/
theorem fresh_4 : ∀ n, n ≤ cfg0.N → cfg0.fresh 4 n = (fun n => decide (n = 0) || decide (n = 19)) n :=
  Cfg.fresh_tab cfg0 4 _ rfl ((by decide +kernel : ∀ t : Fin grid0.N, (fun n => decide (n = 0) || decide (n = 19)) (t.val + 1)
    = ((cfg0.win 4).flush t || (cfg0.idle 4 (cfg0.grid.coords t) && (fun n => decide (n = 0) || decide (n = 19)) t.val))))

/-- Window 5's buffer is fresh before the first point only. -/
theorem fresh_5 : ∀ n, n ≤ cfg0.N → cfg0.fresh 5 n = (fun n => decide (n = 0) || decide (n = 19)) n :=
  Cfg.fresh_tab cfg0 5 _ rfl ((by decide +kernel : ∀ t : Fin grid0.N, (fun n => decide (n = 0) || decide (n = 19)) (t.val + 1)
    = ((cfg0.win 5).flush t || (cfg0.idle 5 (cfg0.grid.coords t) && (fun n => decide (n = 0) || decide (n = 19)) t.val))))

/-- After the first point window 4 holds the codes. -/
theorem before_4 (c : Dev nD) (t : Fin cfg0.N) (ht : ¬ t.val % 19 = 0) (d) : (dats m 0 c).before 4 t d = codesOf (toks m c) := by
  have hN : t.val < 19 := lt_of_lt_of_eq t.isLt (show cfg0.N = 19 from N_0)
  rw [(dats m 0 c).before_out_traj 4 rfl (fun _ _ => rfl) (fun t _ _ _ => by rw [after_4, after_4]) t.val t rfl d, fresh_4 _ t.isLt.le,
    after_4, if_neg]
  simp only [Bool.or_eq_true, decide_eq_true_eq]; omega

/-- After the first point window 5 holds the scale. -/
theorem before_5 (c : Dev nD) (t : Fin cfg0.N) (ht : ¬ t.val % 19 = 0) (d) : (dats m 0 c).before 5 t d = scaleOf (toks m c) := by
  have hN : t.val < 19 := lt_of_lt_of_eq t.isLt (show cfg0.N = 19 from N_0)
  rw [(dats m 0 c).before_out_traj 5 rfl (fun _ _ => rfl) (fun t _ _ _ => by rw [after_5, after_5]) t.val t rfl d, fresh_5 _ t.isLt.le,
    after_5, if_neg]
  simp only [Bool.or_eq_true, decide_eq_true_eq]; omega

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A window that holds what its proof data says, at a point where it is not idle, is left as promised. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- Window 4 is left as promised at a later point when it holds the codes. -/
theorem leaves_4 (c : Dev nD) (t : Fin cfg0.N) (ht : ¬ t.val % 19 = 0) :
    owns (c : Thread nD τ) (st0_4 t) fullShare (codesOf (toks m c)) ⊢ ((dats m 0 c).leavesExact 4 t : sProp 𝕄) := by
  have hid : cfg0.idle 4 (grid0.coords t) = true := by
    show (!(k0_cond1 (grid0.coords t) == 1#1)) = true
    rw [Bool.not_eq_true', beq_eq_false_iff_ne]
    exact fun h => ht ((first_iff t).mp h)
  unfold Dat.leavesExact
  rw [hid]
  cases hf : (cfg0.win 4).flush t
  · simp only [before_4 m c t ht]
    iintro H
    iexists (fun _ => default)
    iexact H
  · simp only [after_4]
    exact .rfl

/-- Window 5 is left as promised at a later point when it holds the scale. -/
theorem leaves_5 (c : Dev nD) (t : Fin cfg0.N) (ht : ¬ t.val % 19 = 0) :
    owns (c : Thread nD τ) (st0_5 t) fullShare (scaleOf (toks m c)) ⊢ ((dats m 0 c).leavesExact 5 t : sProp 𝕄) := by
  have hid : cfg0.idle 5 (grid0.coords t) = true := by
    show (!(k0_cond1 (grid0.coords t) == 1#1)) = true
    rw [Bool.not_eq_true', beq_eq_false_iff_ne]
    exact fun h => ht ((first_iff t).mp h)
  unfold Dat.leavesExact
  rw [hid]
  cases hf : (cfg0.win 5).flush t
  · simp only [before_5 m c t ht]
    iintro H
    iexists (fun _ => default)
    iexact H
  · simp only [after_5]
    exact .rfl

set_option maxHeartbeats 1600000 in
/-- The body at the first point. -/
theorem sound_first (c : Dev nD) (t : Fin cfg0.N) (h0 : t.val % 19 = 0) :
    bodyPre m c t ⊢ wp frame (wpE (defs₀ (F := F)) Variants.none c none) Set.univ (bodyAt0 t) (fun _ => bodyPost m c t) := by
  have hN : t.val < 19 := lt_of_lt_of_eq t.isLt (show cfg0.N = 19 from N_0)
  obtain rfl : t = pt0 := Fin.ext (by show t.val = 0; omega)
  have l4 : cfg0.idle 4 (grid0.coords pt0) = false := by
    show (!(k0_cond1 (grid0.coords pt0) == 1#1)) = false
    rw [(first_iff pt0).mpr h0]; rfl
  have l5 : cfg0.idle 5 (grid0.coords pt0) = false := l4
  unfold bodyPre bodyPost bodyAt0
  simp only [before_0, before_1, before_2]
  rw [leaves_live m c 0 pt0 rfl, leaves_live m c 1 pt0 rfl, leaves_live m c 2 pt0 rfl, leaves_live m c 3 pt0 rfl,
    leaves_live m c 4 pt0 l4, leaves_live m c 5 pt0 l5, after_0, after_1, after_2, after_3, after_4, after_5,
    show (dats m 0 c).owesAt () pt0.succ = (dats m 0 c).owesAt () pt0.castSucc from rfl,
    show (dats m 0 c).Φ pt0.castSucc = Pipeline.ΦA spec0 c from rfl, lent_eq,
    show (dats m 0 c).Φ pt0.succ = iprop(iprop(owns (c : Thread nD τ) scM0 fullShare (xPerm (codesOf (toks m c))) ∗ owns (c : Thread nD τ) scM1 fullShare (scalesOf (toks m c))) ∗ (∃ r, prngReg c r)) from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (runA c (grid0.coords pt0) _ _ _ _ _ _ _ _ _ _ _ _ _ _ _ _ ((first_iff pt0).mpr h0) (iblk m c 0 pt0) (iblk m c 1 pt0) (iblk m c 2 pt0) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The body at a later point. -/
theorem sound_later (c : Dev nD) (t : Fin cfg0.N) (h0 : ¬ t.val % 19 = 0) :
    bodyPre m c t ⊢ wp frame (wpE (defs₀ (F := F)) Variants.none c none) Set.univ (bodyAt0 t) (fun _ => bodyPost m c t) := by
  have e1 : (dats m 0 c).Φ t.castSucc = iprop(iprop(owns (c : Thread nD τ) scM0 fullShare (xPerm (codesOf (toks m c))) ∗ owns (c : Thread nD τ) scM1 fullShare (scalesOf (toks m c))) ∗ (∃ r, prngReg c r)) := by
    show between m c t.val = _
    obtain ⟨n, hn⟩ : ∃ n, t.val = n + 1 := ⟨t.val - 1, by omega⟩
    rw [hn]; rfl
  unfold bodyPre bodyPost bodyAt0
  simp only [before_0, before_1, before_2, before_4 m c t h0, before_5 m c t h0]
  rw [leaves_live m c 0 t rfl, leaves_live m c 1 t rfl, leaves_live m c 2 t rfl, leaves_live m c 3 t rfl,
    after_0, after_1, after_2, after_3,
    show (dats m 0 c).owesAt () t.succ = (dats m 0 c).owesAt () t.castSucc from rfl, e1,
    show (dats m 0 c).Φ t.succ = iprop(iprop(owns (c : Thread nD τ) scM0 fullShare (xPerm (codesOf (toks m c))) ∗ owns (c : Thread nD τ) scM1 fullShare (scalesOf (toks m c))) ∗ (∃ r, prngReg c r)) from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (runB c (grid0.coords t) _ _ _ _ _ _ _ _ _ _ _ _ _ _ _ _ (fun h => h0 ((first_iff t).mp h)) (iblk m c 0 t) (iblk m c 1 t) (iblk m c 2 t)
    (codesOf (toks m c)) (scaleOf (toks m c)) (xPerm (codesOf (toks m c))) (scalesOf (toks m c)) Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]
  · iapply (leaves_4 m c t h0); iexact H4
  iapply (leaves_5 m c t h0); iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 19 = 0
  · exact sound_first m c t h0
  · exact sound_later m c t h0

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body keeps the region's contract at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the end the scratch buffers go back with whatever they hold. -/
theorem give_back (c : Dev nD) : (dats m 0 c).Φ (Fin.last cfg0.N) ⊢ (Pipeline.ΦA spec0 c : sProp 𝕄) := by
  rw [lent_eq, show (dats m 0 c).Φ (Fin.last cfg0.N) = iprop(iprop(owns (c : Thread nD τ) scM0 fullShare (xPerm (codesOf (toks m c))) ∗ owns (c : Thread nD τ) scM1 fullShare (scalesOf (toks m c))) ∗ (∃ r, prngReg c r)) from by
    show between m c cfg0.N = _
    rw [show cfg0.N = 18 + 1 from N_0]; rfl]
  iintro ⟨⟨HS0, HS1⟩, Hg⟩
  isplitl [HS0 HS1]
  · isplitl [HS0]
    · iexists _; iexact HS0
    iexists _; iexact HS1
  iexact Hg

-- the launch theorem's implicit arguments are found by unfolding plain definitions in a metavariable's type
set_option backward.isDefEq.respectTransparency.types false in
set_option maxHeartbeats 800000 in
/-- Every run of the kernel ends, with every array at what the proof data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := give_back m)

/-- The kernel leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel.Hand

end
-- ==== Proof.Final.lean ====
module

public import proofs.«01_k».proof.Proof.Launch
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The tokens as a matrix. -/
def tokens (c : Dev nD) : Vec F S192x3584 .bf16 :=
  shapeCast S192x3584 (m ((c : Thread nD τ).loc main_arg0)) shapeCasts_S192x1x3584_S192x3584

/-- The `t`-th block of 1024 columns of the packed weights. -/
def wBlock (W : Vec F S1792x19456 .i8) (t : Fin 19) : Vec F S1792x1024 .i8 := fun y =>
  W (ValueIdx.ix2 ⟨(y 0).val, (y 0).isLt⟩ ⟨t.val * 1024 + (y 1).val, by have := t.isLt; have h : (y 1).val < 1024 := (y 1).isLt; show _ < 19456; omega⟩)

/-- The `t`-th block of 1024 columns of the weights' scales. -/
def sBlock (S : Vec F S28x19456 .f32) (t : Fin 19) : Vec F S28x1024 .f32 := fun y =>
  S (ValueIdx.ix2 ⟨(y 0).val, (y 0).isLt⟩ ⟨t.val * 1024 + (y 1).val, by have := t.isLt; have h : (y 1).val < 1024 := (y 1).isLt; show _ < 19456; omega⟩)

/-- The products, put together from the blocks that the grid points compute. -/
def yAll (W : Vec F S1792x19456 .i8) (S : Vec F S28x19456 .f32) (xp : Vec F S192x3584 .fp8e4m3) (xs : Vec F S192x128 .f32) :
    Vec F S192x19456 .bf16 := fun i =>
  have h : (i 1).val < 19456 := (i 1).isLt
  yBlock (wBlock W ⟨(i 1).val / 1024, by omega⟩) (sBlock S ⟨(i 1).val / 1024, by omega⟩) xp xs
    (ValueIdx.ix2 ⟨(i 0).val, (i 0).isLt⟩ ⟨(i 1).val % 1024, by show _ < 1024; omega⟩)

/-- Which block each window takes at each grid point. -/
theorem index_eq : ∀ t : Fin cfg0.N, (win0_0.index t = ![0, 0] ∧ win0_1.index t = ![0, t.val] ∧ win0_2.index t = ![0, t.val])
    ∧ win0_3.index t = ![0, t.val] ∧ win0_4.index t = ![0, 0] ∧ win0_5.index t = ![0, 0] :=
  (by decide +kernel : ∀ t : Fin grid0.N, (win0_0.index t = ![0, 0] ∧ win0_1.index t = ![0, t.val] ∧ win0_2.index t = ![0, t.val])
    ∧ win0_3.index t = ![0, t.val] ∧ win0_4.index t = ![0, 0] ∧ win0_5.index t = ![0, 0])

/-- Window 0's block is the tokens. -/
theorem iblk_0 (c : Dev nD) (t : Fin cfg0.N) : iblk m c 0 t = tokens m c := by
  funext y
  blk_simp [iblk, (index_eq t).1.1]
  entry_read
  unfold tokens
  pointwise
  blk_ext [iblk, (index_eq t).1.1]

/-- What the first point finds in window 0 is the tokens. -/
theorem toks_eq (c : Dev nD) : toks m c = tokens m c := iblk_0 m c pt0

/-- A grid point as a number below 19. -/
abbrev num (t : Fin cfg0.N) : Fin 19 := ⟨t.val, lt_of_lt_of_eq t.isLt (show cfg0.N = 19 from N_0)⟩

/-- Window 1's block is a block of columns of the packed weights. -/
theorem iblk_1 (c : Dev nD) (t : Fin cfg0.N) : iblk m c 1 t = wBlock (m ((c : Thread nD τ).loc main_arg1)) (num t) := by
  funext y
  unfold wBlock
  blk_ext [iblk, V, (index_eq t).1.2.1]

/-- Window 2's block is a block of columns of the weights' scales. -/
theorem iblk_2 (c : Dev nD) (t : Fin cfg0.N) : iblk m c 2 t = sBlock (m ((c : Thread nD τ).loc main_arg2)) (num t) := by
  funext y
  unfold sBlock
  blk_ext [iblk, V, (index_eq t).1.2.2]

/-- Window 3's blocks put together. -/
theorem cut_3 (W : Vec F S1792x19456 .i8) (S : Vec F S28x19456 .f32) (xp : Vec F S192x3584 .fp8e4m3) (xs : Vec F S192x128 .f32) (t : Fin cfg0.N) :
    (cfg0.win 3).cut (grid0.coords t) (yBlock (wBlock W (num t)) (sBlock S (num t)) xp xs)
      = ((cfg0.win 3).blk t).view.read (Elt F) (yAll W S xp xs) := by
  have key : ∀ (u : Fin 19) (i : S192x19456.Idx) (y : S192x1024.Idx), (i 0).val = (y 0).val → (i 1).val = u.val * 1024 + (y 1).val →
      yBlock (wBlock W u) (sBlock S u) xp xs y = yAll W S xp xs i := by
    intro u i y h0 h1
    have hy : (y 1).val < 1024 := (y 1).isLt
    have hi : (i 1).val < 19456 := (i 1).isLt
    unfold yAll
    have e : (⟨(i 1).val / 1024, by omega⟩ : Fin 19) = u := Fin.ext (by show (i 1).val / 1024 = u.val; omega)
    simp only [e]
    refine congrArg _ (funext fun a => Fin.ext ?_)
    match a with
    | ⟨0, _⟩ => exact h0.symm
    | ⟨1, _⟩ => show (y 1).val = (i 1).val % 1024; omega
  funext y
  refine key (num t) _ ((cfg0.win 3).xinj (grid0.coords t) y) ?_ ?_
  · blk_simp [(index_eq t).2.1]
    first | done | omega
  · blk_simp [(index_eq t).2.1]
    first | done | omega

/-- Window 4's one block of an array is the array. -/
theorem cut_4 (t : Fin cfg0.N) (G : Vec F S192x3584 .fp8e4m3) : (cfg0.win 4).cut (grid0.coords t) G = ((cfg0.win 4).blk t).view.read (Elt F) G := by
  funext y
  show G ((cfg0.win 4).xinj (grid0.coords t) y) = G (((cfg0.win 4).blk t).view.emb y)
  blk_ext [(index_eq t).2.2.1]

/-- Window 5's one block of an array is the array. -/
theorem cut_5 (t : Fin cfg0.N) (G : Vec F S192x1 .f32) : (cfg0.win 5).cut (grid0.coords t) G = ((cfg0.win 5).blk t).view.read (Elt F) G := by
  funext y
  show G ((cfg0.win 5).xinj (grid0.coords t) y) = G (((cfg0.win 5).blk t).view.emb y)
  blk_ext [(index_eq t).2.2.2]

/-- The last grid point. -/
abbrev pt18 : Fin cfg0.N := ⟨18, lt_of_lt_of_eq (by decide) (show 19 = cfg0.N from N_0.symm)⟩

/-- The final array of products. -/
theorem final_3 (c : Dev nD) : (dats m 0 c).arrAt 3 cfg0.N
    = yAll (m ((c : Thread nD τ).loc main_arg1)) (m ((c : Thread nD τ).loc main_arg2)) (xPerm (codesOf (tokens m c))) (scalesOf (tokens m c)) := by
  refine Dat.arrAt_eq_of_cover _ 3 _ (fun t _ => ?_) fun i => ?_
  · show (cfg0.win 3).cut (grid0.coords t) ((dats m 0 c).after 3 t) = _
    rw [after_3, toks_eq, iblk_1, iblk_2]
    exact cut_3 _ _ _ _ t
  · have hi : (i 1).val < 19456 := (i 1).isLt
    obtain ⟨t, ht⟩ : ∃ t : Fin cfg0.N, t.val = (i 1).val / 1024 :=
      ⟨⟨(i 1).val / 1024, lt_of_lt_of_eq (by omega) (show 19 = cfg0.N from N_0.symm)⟩, rfl⟩
    refine ⟨t, flush0_3 t, ?_⟩
    mem_blk [(index_eq t).2.1]
    idx_bounds_all
    omega

/-- The final array of codes. -/
theorem final_4 (c : Dev nD) : (dats m 0 c).arrAt 4 cfg0.N = codesOf (tokens m c) := by
  refine Dat.arrAt_eq_of_cover _ 4 _ (fun t _ => ?_) fun i => ⟨pt18, (flush0_4 pt18).mpr rfl, ?_⟩
  · show (cfg0.win 4).cut (grid0.coords t) ((dats m 0 c).after 4 t) = _
    rw [after_4, toks_eq]
    exact cut_4 t _
  · mem_blk [(index_eq pt18).2.2.1]
    idx_bounds_all
    omega

/-- The final array of scales. -/
theorem final_5 (c : Dev nD) : (dats m 0 c).arrAt 5 cfg0.N = scaleOf (tokens m c) := by
  refine Dat.arrAt_eq_of_cover _ 5 _ (fun t _ => ?_) fun i => ⟨pt18, (flush0_5 pt18).mpr rfl, ?_⟩
  · show (cfg0.win 5).cut (grid0.coords t) ((dats m 0 c).after 5 t) = _
    rw [after_5, toks_eq]
    exact cut_5 t _
  · mem_blk [(index_eq pt18).2.2.2]
    idx_bounds_all
    omega

/-- Every run of the kernel ends with its three results, its arguments unchanged. -/
theorem run_value : θ_run defs (onTc (τ := τ) (main (F := F))) ⟨m, fun _ => 0, ρ⟩ (fun r => ∀ c : Dev nD,
      r.2.mem ((c.tc : Thread nD τ).loc main_v1_0) = yAll (m ((c : Thread nD τ).loc main_arg1)) (m ((c : Thread nD τ).loc main_arg2)) (xPerm (codesOf (tokens m c))) (scalesOf (tokens m c))
      ∧ r.2.mem ((c.tc : Thread nD τ).loc main_v1_1) = codesOf (tokens m c)
      ∧ r.2.mem ((c.tc : Thread nD τ).loc main_v1_2) = scaleOf (tokens m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1.1 c).1 3).trans (final_3 m c), ((h.1.1 c).1 4).trans (final_4 m c), ((h.1.1 c).1 5).trans (final_5 m c), h.2.1 c⟩)
    (θ_run_and (run_main m ρ) (frame m ρ))

end Cert.KernelIdeal.Hand

end
-- ==== Proof.RefFinal.lean ====
module

public import proofs.«01_k».proof.Proof.Gen.ReferenceIdeal.Frame
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The tokens as a matrix. -/
def toks (c : Dev nD) : Vec F S192x3584 .bf16 :=
  shapeCast S192x3584 (m ((c : Thread nD τ).loc main_arg0)) shapeCasts_S192x1x3584_S192x3584

/-- The one grid point. -/
abbrev pt0 : Fin cfg0.N := ⟨0, lt_of_lt_of_eq (by decide) (show 1 = cfg0.N from N_0.symm)⟩

/-- Every window's block is the whole array. -/
theorem index_zero : ∀ t : Fin cfg0.N, (win0_0.index t = ![0, 0] ∧ win0_1.index t = ![0, 0] ∧ win0_2.index t = ![0, 0])
    ∧ win0_3.index t = ![0, 0] ∧ win0_4.index t = ![0, 0] ∧ win0_5.index t = ![0, 0] :=
  (by decide +kernel : ∀ t : Fin grid0.N, (win0_0.index t = ![0, 0] ∧ win0_1.index t = ![0, 0] ∧ win0_2.index t = ![0, 0])
    ∧ win0_3.index t = ![0, 0] ∧ win0_4.index t = ![0, 0] ∧ win0_5.index t = ![0, 0])

/-- Window 0's block is the tokens. -/
theorem iblk_0 (c : Dev nD) (t : Fin cfg0.N) : iblk m c 0 t = toks m c := by
  funext y
  blk_simp [iblk, (index_zero t).1.1]
  entry_read
  unfold toks
  pointwise
  blk_ext [iblk, (index_zero t).1.1]

/-- Window 1's block is the packed weights. -/
theorem iblk_1 (c : Dev nD) (t : Fin cfg0.N) : iblk m c 1 t = m ((c : Thread nD τ).loc main_arg1) := by
  funext y
  blk_ext [iblk, V, (index_zero t).1.2.1]

/-- Window 2's block is the weights' scales. -/
theorem iblk_2 (c : Dev nD) (t : Fin cfg0.N) : iblk m c 2 t = m ((c : Thread nD τ).loc main_arg2) := by
  funext y
  blk_ext [iblk, V, (index_zero t).1.2.2]

/-- A rectangle of a shape's own sizes at the origin holds every index. -/
theorem mem_all {s : Shape} {off : Fin s.rank → ℕ} (h : off = fun _ => 0) (inb : ∀ a, off a + s.size a ≤ s.size a) (y : s.Idx) :
    y ∈ (Rect.unit off s.size inb).set := by
  subst h
  exact Rect.mem_set_unit.mpr fun a => ⟨Nat.zero_le _, by rw [Nat.zero_add]; exact (y a).isLt⟩

/-- One store of the whole shape at the origin leaves what it stores. -/
theorem canon_all {e : EltTy} {s : Shape} {off : Fin s.rank → ℕ} (h : off = fun _ => 0) (inb : ∀ a, off a + s.size a ≤ s.size a)
    (w : s.Idx → Elt F e) : View.canon [(⟨Rect.unit off s.size inb, w⟩ : View.Piece (Elt F) s e)] = w := by
  funext y
  refine View.canon_apply_of_pieces w _ ?_ y ⟨_, List.mem_singleton.mpr rfl, mem_all h inb y⟩
  intro p hp x
  obtain rfl := List.mem_singleton.mp hp
  refine congrArg w (funext fun a => Fin.ext ?_)
  subst h
  show (x a).val = 0 + 1 * (x a).val
  omega

/-- A load of the whole shape at the origin reads everything. -/
theorem ld_all {e : EltTy} {s : Shape} {off : Fin s.rank → ℕ} (h : off = fun _ => 0) (inb : ∀ a, off a + s.size a ≤ s.size a)
    (w : s.Idx → Elt F e) : View.ld w (Rect.unit off s.size inb) = w := by
  subst h
  funext y
  refine congrArg w (funext fun a => Fin.ext ?_)
  show 0 + 1 * (y a).val = (y a).val
  omega

/-- Two zero offsets. -/
theorem off_zero : (![0, 0] : Fin 2 → ℕ) = fun _ => 0 := by funext a; fin_cases a <;> rfl

/-- What the body stores in window 3. -/
theorem out_3 (x0 : Vec F S192x3584 .bf16) (x1 : Vec F S1792x19456 .i8) (x2 : Vec F S28x19456 .f32) :
    out0_3 x0 x1 x2 = k0_pay1 (k0_pay3 x0) (k0_pay4 x0) x1 x2 := by
  unfold out0_3
  rw [ld_all off_zero, ld_all off_zero, ld_all off_zero]
  exact canon_all off_zero _ _

/-- What the body stores in window 4. -/
theorem out_4 (x0 : Vec F S192x3584 .bf16) (x1 : Vec F S1792x19456 .i8) (x2 : Vec F S28x19456 .f32) :
    out0_4 x0 x1 x2 = k0_pay4 x0 := by
  unfold out0_4
  rw [ld_all off_zero]
  exact canon_all off_zero _ _

/-- What the body stores in window 5. -/
theorem out_5 (x0 : Vec F S192x3584 .bf16) (x1 : Vec F S1792x19456 .i8) (x2 : Vec F S28x19456 .f32) :
    out0_5 x0 x1 x2 = k0_pay5 x0 := by
  unfold out0_5
  rw [ld_all off_zero]
  exact canon_all off_zero _ _

/-- Window 3's one block of an array is the array. -/
theorem cut_3 (t : Fin cfg0.N) (G : Vec F S192x19456 .bf16) : (cfg0.win 3).cut (grid0.coords t) G = ((cfg0.win 3).blk t).view.read (Elt F) G := by
  funext y
  show G ((cfg0.win 3).xinj (grid0.coords t) y) = G (((cfg0.win 3).blk t).view.emb y)
  blk_ext [(index_zero t).2.1]

/-- Window 4's one block of an array is the array. -/
theorem cut_4 (t : Fin cfg0.N) (G : Vec F S192x3584 .fp8e4m3) : (cfg0.win 4).cut (grid0.coords t) G = ((cfg0.win 4).blk t).view.read (Elt F) G := by
  funext y
  show G ((cfg0.win 4).xinj (grid0.coords t) y) = G (((cfg0.win 4).blk t).view.emb y)
  blk_ext [(index_zero t).2.2.1]

/-- Window 5's one block of an array is the array. -/
theorem cut_5 (t : Fin cfg0.N) (G : Vec F S192x1 .f32) : (cfg0.win 5).cut (grid0.coords t) G = ((cfg0.win 5).blk t).view.read (Elt F) G := by
  funext y
  show G ((cfg0.win 5).xinj (grid0.coords t) y) = G (((cfg0.win 5).blk t).view.emb y)
  blk_ext [(index_zero t).2.2.2]

/-- The final array of products. -/
theorem final_3 (c : Dev nD) : (dats m 0 c).arrAt 3 cfg0.N
    = k0_pay1 (k0_pay3 (toks m c)) (k0_pay4 (toks m c)) (m ((c : Thread nD τ).loc main_arg1)) (m ((c : Thread nD τ).loc main_arg2)) := by
  refine Dat.arrAt_eq_of_cover _ 3 _ (fun t _ => ?_) fun i => ⟨pt0, rfl, ?_⟩
  · show (cfg0.win 3).cut (grid0.coords t) ((dats m 0 c).after 3 t) = _
    rw [after0_3, out_3, iblk_0, iblk_1, iblk_2]
    exact cut_3 t _
  · mem_blk [(index_zero pt0).2.1]
    idx_bounds_all
    omega

/-- The final array of codes. -/
theorem final_4 (c : Dev nD) : (dats m 0 c).arrAt 4 cfg0.N = k0_pay4 (toks m c) := by
  refine Dat.arrAt_eq_of_cover _ 4 _ (fun t _ => ?_) fun i => ⟨pt0, rfl, ?_⟩
  · show (cfg0.win 4).cut (grid0.coords t) ((dats m 0 c).after 4 t) = _
    rw [after0_4, out_4, iblk_0]
    exact cut_4 t _
  · mem_blk [(index_zero pt0).2.2.1]
    idx_bounds_all
    omega

/-- The final array of scales. -/
theorem final_5 (c : Dev nD) : (dats m 0 c).arrAt 5 cfg0.N = k0_pay5 (toks m c) := by
  refine Dat.arrAt_eq_of_cover _ 5 _ (fun t _ => ?_) fun i => ⟨pt0, rfl, ?_⟩
  · show (cfg0.win 5).cut (grid0.coords t) ((dats m 0 c).after 5 t) = _
    rw [after0_5, out_5, iblk_0]
    exact cut_5 t _
  · mem_blk [(index_zero pt0).2.2.2]
    idx_bounds_all
    omega

/-- Every run of the reference ends with its three results, its arguments unchanged. -/
theorem run_value : θ_run defs (onTc (τ := τ) (main (F := F))) ⟨m, fun _ => 0, ρ⟩ (fun r => ∀ c : Dev nD,
      r.2.mem ((c.tc : Thread nD τ).loc main_v1_0) = k0_pay1 (k0_pay3 (toks m c)) (k0_pay4 (toks m c)) (m ((c : Thread nD τ).loc main_arg1)) (m ((c : Thread nD τ).loc main_arg2))
      ∧ r.2.mem ((c.tc : Thread nD τ).loc main_v1_1) = k0_pay4 (toks m c)
      ∧ r.2.mem ((c.tc : Thread nD τ).loc main_v1_2) = k0_pay5 (toks m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final_3 m c), ((h.1 c).1 4).trans (final_4 m c), ((h.1 c).1 5).trans (final_5 m c), h.2 c⟩)
    (θ_run_and (run_main m ρ) (unchanged m ρ))

end Cert.ReferenceIdeal.Hand

end
-- ==== Proof.Bytes.lean ====
module

public import proofs.«01_k».proof.Proof.Group

@[expose] public section

noncomputable section

namespace Cert.KernelIdeal.Hand

open Cert.KernelIdeal.Gen
open Idealize.ShloMosaic Idealize.SL.Sem

/-- Thirty-two-bit words read at eight bits: bit `q` of result row `4a + b` of a column is bit `8b + q` of word `a`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r)
    (ha : a.val = p.val / 4) :
    (bitcast ⟨2, ![R, n]⟩ 8 x h (ValueIdx.ix2 p l)).getLsbD q = (x (ValueIdx.ix2 a l)).getLsbD (p.val % 4 * 8 + q) := by
  rw [bitcast_getLsbD x h _ q hq (by decide)]
  have hr : (⟨2, ![R, n]⟩ : Shape).row (ValueIdx.ix2 p l) = p.val := rfl
  have e1 : ((⟨2, ![R, n]⟩ : Shape).row (ValueIdx.ix2 p l) * 8 + q) / 32 = a.val := by rw [hr, ha]; omega
  have e2 : ((⟨2, ![R, n]⟩ : Shape).row (ValueIdx.ix2 p l) * 8 + q) % 32 = p.val % 4 * 8 + q := by rw [hr]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The biased word of rows `4a …` holds, byte by byte, the bytes with their two top bits of a nibble turned. -/
theorem biased_getLsbD {F : FTy → Type} [FloatOps F] (wv : Vec F S64x256 .i8) (p : Fin 64) (n : Fin 256) (a : Fin 16) (q : Nat) (hq : q < 8)
    (ha : a.val = p.val / 4) :
    (biased wv (ValueIdx.ix2 a n)).getLsbD (p.val % 4 * 8 + q) = ((wv (ValueIdx.ix2 p n) : BitVec 8) ^^^ 0x88#8).getLsbD q := by
  show ((bitcast S16x256 32 wv bitcasts_S64x256_w8_S16x256_w32 (ValueIdx.ix2 a n)) ^^^ 2290649224#32).getLsbD _ = _
  rw [BitVec.getLsbD_xor, BitVec.getLsbD_xor,
    bitcast_8_32_getLsbD_ix2 wv bitcasts_S64x256_w8_S16x256_w32 a n _ (by omega) p (by omega),
    show (p.val % 4 * 8 + q) % 8 = q by omega]
  congr 1
  have h4 : p.val % 4 < 4 := Nat.mod_lt _ (by decide)
  generalize p.val % 4 = b at h4
  revert b q
  decide

/-- The low nibbles' bytes. -/
theorem lo_byte {F : FTy → Type} [FloatOps F] (wv : Vec F S64x256 .i8) (p : Fin 64) (n : Fin 256) :
    bitcast S64x256 8 (loWords wv) bitcasts_S16x256_w32_S64x256_w8 (ValueIdx.ix2 p n)
      = ((wv (ValueIdx.ix2 p n) : BitVec 8) ^^^ 0x88#8) &&& 0x0F#8 := by
  apply BitVec.eq_of_getLsbD_eq
  intro q hq
  rw [bitcast_32_8_getLsbD_ix2 _ _ p n q hq ⟨p.val / 4, by omega⟩ rfl, BitVec.getLsbD_and,
    ← biased_getLsbD wv p n ⟨p.val / 4, by omega⟩ q hq rfl]
  show (biased wv _ &&& 252645135#32).getLsbD _ = _
  rw [BitVec.getLsbD_and]
  congr 1
  have h4 : p.val % 4 < 4 := Nat.mod_lt _ (by decide)
  generalize p.val % 4 = b at h4
  revert b q
  decide

/-- The high nibbles' bytes. -/
theorem hi_byte {F : FTy → Type} [FloatOps F] (wv : Vec F S64x256 .i8) (p : Fin 64) (n : Fin 256) :
    bitcast S64x256 8 (hiWords wv) bitcasts_S16x256_w32_S64x256_w8 (ValueIdx.ix2 p n)
      = (((wv (ValueIdx.ix2 p n) : BitVec 8) ^^^ 0x88#8) >>> 4) &&& 0x0F#8 := by
  apply BitVec.eq_of_getLsbD_eq
  intro q hq
  rw [bitcast_32_8_getLsbD_ix2 _ _ p n q hq ⟨p.val / 4, by omega⟩ rfl, BitVec.getLsbD_and, BitVec.getLsbD_ushiftRight]
  show ((biased wv _ >>> 4) &&& 252645135#32).getLsbD _ = _
  rw [BitVec.getLsbD_and, BitVec.getLsbD_ushiftRight]
  have h4 : p.val % 4 < 4 := Nat.mod_lt _ (by decide)
  have hm : (252645135#32).getLsbD (p.val % 4 * 8 + q) = (0x0F#8).getLsbD q := by
    generalize p.val % 4 = b at h4
    revert b q
    decide
  rw [hm]
  by_cases h : q < 4
  · rw [← biased_getLsbD wv p n ⟨p.val / 4, by omega⟩ (4 + q) (by omega) rfl,
      show 4 + (p.val % 4 * 8 + q) = p.val % 4 * 8 + (4 + q) by omega]
  · have : (0x0F#8).getLsbD q = false := by clear hm; revert q; decide
    rw [this, Bool.and_false, Bool.and_false]

/-- The signed value of a byte's low nibble. -/
def loInt (b : BitVec 8) : ℤ := (((b.setWidth 32 &&& 15#32) ^^^ 8#32) - 8#32).toInt

/-- The signed value of a byte's high nibble. -/
def hiInt (b : BitVec 8) : ℤ := ((((b.setWidth 32).sshiftRight 4 &&& 15#32) ^^^ 8#32) - 8#32).toInt

/-- An fp8 byte below 16 denotes its own number in units of two to the minus nine. -/
theorem e4m3fn_small (b : BitVec 8) (h : b.toNat < 16) : Ideal.e4m3fn b = ((b.toNat * (2 : ℝ) ^ (-9 : ℤ) : ℝ) : EReal) := by
  have key : ∀ b : BitVec 8, b.toNat < 16 → (b.extractLsb' 7 1 == 1#1) = false
      ∧ ((b.extractLsb' 3 4).toNat = 0 ∧ (b.extractLsb' 0 3).toNat = b.toNat
        ∨ (b.extractLsb' 3 4).toNat = 1 ∧ 8 + (b.extractLsb' 0 3).toNat = b.toNat) := by decide +kernel
  obtain ⟨hn, hc⟩ := key b h
  unfold Ideal.e4m3fn
  simp only [hn]
  rcases hc with ⟨h1, h2⟩ | ⟨h1, h2⟩
  · simp [h1, h2]
  · simp only [h1, h2]
    norm_num

/-- The byte `0x88` denotes minus eight of those units. -/
theorem e4m3fn_offset : Ideal.e4m3fn 0x88#8 = ((-8 * (2 : ℝ) ^ (-9 : ℤ) : ℝ) : EReal) := by
  have h : ((0x88#8).extractLsb' 7 1 == 1#1) = true ∧ ((0x88#8).extractLsb' 3 4).toNat = 1 ∧ ((0x88#8).extractLsb' 0 3).toNat = 0 := by decide
  obtain ⟨h0, h1, h2⟩ := h
  unfold Ideal.e4m3fn
  simp only [h0, h1, h2]
  norm_num

/-- A byte's low nibble with its top bit turned is the nibble's signed value plus eight. -/
theorem lo_nat : ∀ b : BitVec 8, ((b ^^^ 0x88#8) &&& 0x0F#8).toNat < 16 ∧ (((b ^^^ 0x88#8) &&& 0x0F#8).toNat : ℤ) = loInt b + 8 := by
  unfold loInt; decide +kernel

/-- A byte's high nibble with its top bit turned is the nibble's signed value plus eight. -/
theorem hi_nat : ∀ b : BitVec 8, (((b ^^^ 0x88#8) >>> 4) &&& 0x0F#8).toNat < 16 ∧ ((((b ^^^ 0x88#8) >>> 4) &&& 0x0F#8).toNat : ℤ) = hiInt b + 8 := by
  unfold hiInt; decide +kernel

/-- A decoded low nibble. -/
theorem asF8_lo (wv : Vec Ideal S64x256 .i8) (p : Fin 64) (n : Fin 256) :
    asF8 (F := Ideal) (loWords wv) (ValueIdx.ix2 p n) = ((((loInt (wv (ValueIdx.ix2 p n)) : ℝ) + 8) * (2 : ℝ) ^ (-9 : ℤ) : ℝ) : EReal) := by
  show Ideal.e4m3fn (bitcast S64x256 8 (loWords wv) bitcasts_S16x256_w32_S64x256_w8 (ValueIdx.ix2 p n)) = _
  obtain ⟨h1, h2⟩ := lo_nat (wv (ValueIdx.ix2 p n))
  rw [lo_byte, e4m3fn_small _ h1]
  have h3 : ((((wv (ValueIdx.ix2 p n) : BitVec 8) ^^^ 0x88#8) &&& 0x0F#8).toNat : ℝ) = (loInt (wv (ValueIdx.ix2 p n)) : ℝ) + 8 := by
    exact_mod_cast h2
  rw [h3]

/-- A decoded high nibble. -/
theorem asF8_hi (wv : Vec Ideal S64x256 .i8) (p : Fin 64) (n : Fin 256) :
    asF8 (F := Ideal) (hiWords wv) (ValueIdx.ix2 p n) = ((((hiInt (wv (ValueIdx.ix2 p n)) : ℝ) + 8) * (2 : ℝ) ^ (-9 : ℤ) : ℝ) : EReal) := by
  show Ideal.e4m3fn (bitcast S64x256 8 (hiWords wv) bitcasts_S16x256_w32_S64x256_w8 (ValueIdx.ix2 p n)) = _
  obtain ⟨h1, h2⟩ := hi_nat (wv (ValueIdx.ix2 p n))
  rw [hi_byte, e4m3fn_small _ h1]
  have h3 : (((((wv (ValueIdx.ix2 p n) : BitVec 8) ^^^ 0x88#8) >>> 4) &&& 0x0F#8).toNat : ℝ) = (hiInt (wv (ValueIdx.ix2 p n)) : ℝ) + 8 := by
    exact_mod_cast h2
  rw [h3]

/-- The offset rows. -/
theorem offset_at (p : Fin 128) (n : Fin 256) : k0_pay39 (F := Ideal) (ValueIdx.ix2 p n) = ((-8 * (2 : ℝ) ^ (-9 : ℤ) : ℝ) : EReal) := by
  show Ideal.e4m3fn (bitcast S128x256 8 (broadcast S32x256 2290649224#32) bitcasts_S32x256_w32_S128x256_w8 (ValueIdx.ix2 p n)) = _
  rw [← e4m3fn_offset]
  congr 1
  apply BitVec.eq_of_getLsbD_eq
  intro q hq
  rw [bitcast_32_8_getLsbD_ix2 _ _ p n q hq ⟨p.val / 4, by omega⟩ rfl]
  show (2290649224#32).getLsbD _ = _
  have h4 : p.val % 4 < 4 := Nat.mod_lt _ (by decide)
  generalize p.val % 4 = b at h4
  revert b q
  decide

end Cert.KernelIdeal.Hand

end
-- ==== Proof.Power.lean ====
module

public import proofs.«01_k».proof.Proof.Quant

@[expose] public section

noncomputable section

namespace Cert.KernelIdeal.Hand

open Cert.KernelIdeal.Gen
open Idealize.ShloMosaic Idealize.SL.Sem

/-- The number whose word has the exponent field `k + 127` and no mantissa. -/
def wordAt (k : BitVec 32) : EReal := Ideal.ofBits .f32 ((k + 127#32) <<< 23)

/-- The product of the two such numbers whose exponents are the halves of `e`. -/
def pow2At (e : BitVec 32) : EReal := wordAt (e.sshiftRight 1) * wordAt (e - e.sshiftRight 1)

/-- A small natural number's word, read signed. -/
theorem toInt_small (n : ℕ) (h : n ≤ 254) : (BitVec.ofNat 32 n).toInt = n := by
  rw [BitVec.toInt_eq_toNat_bmod, BitVec.toNat_ofNat, Nat.mod_eq_of_lt (by omega)]
  apply Int.bmod_eq_of_le <;> omega

/-- The words of exponent field `n` and no mantissa: the fields that the reading of a word looks at. -/
theorem word_fields : ∀ n : Fin 255, ((BitVec.ofNat 32 n.val <<< 23).extractLsb' (8 + 23) 1 == 1#1) = false
      ∧ ((BitVec.ofNat 32 n.val <<< 23).extractLsb' 23 8).toNat = n.val
      ∧ ((BitVec.ofNat 32 n.val <<< 23).extractLsb' 0 23).toNat = 0 := by decide +kernel

/-- A word of a normal exponent field and no mantissa denotes a power of two. -/
theorem ieee_pow (b : BitVec 32) (n : ℕ) (h1 : 1 ≤ n) (h2 : n ≤ 254) (hs : (b.extractLsb' (8 + 23) 1 == 1#1) = false)
    (he : (b.extractLsb' 23 8).toNat = n) (hm : (b.extractLsb' 0 23).toNat = 0) :
    Ideal.ieee 8 23 b = (((2 : ℝ) ^ ((n : ℤ) - 127) : ℝ) : EReal) := by
  have e : Ideal.ieee 8 23 b = (((if (b.extractLsb' (8 + 23) 1 == 1#1) = true then -1 else 1)
      * ((2 ^ 23 + (b.extractLsb' 0 23).toNat : ℕ) : ℝ) * (2 : ℝ) ^ (((b.extractLsb' 23 8).toNat : ℤ) - (2 ^ (8 - 1) - 1) - (23 : ℕ)) : ℝ) : EReal) := by
    unfold Ideal.ieee
    dsimp only
    rw [if_neg (by rw [he]; omega), if_neg (by rw [he]; omega)]
  rw [e, hs, he, hm, if_neg Bool.false_ne_true]
  congr 1
  rw [one_mul, show ((2 ^ 23 + 0 : ℕ) : ℝ) = (2 : ℝ) ^ (23 : ℤ) by norm_num, ← zpow_add₀ (by norm_num)]
  congr 1
  push_cast
  ring

/-- The word of exponent field `k + 127` denotes two to the power `k`. -/
theorem wordAt_eq (k : BitVec 32) (h1 : -126 ≤ k.toInt) (h2 : k.toInt ≤ 127) : wordAt k = (((2 : ℝ) ^ k.toInt : ℝ) : EReal) := by
  obtain ⟨n, hn⟩ : ∃ n : ℕ, (n : ℤ) = k.toInt + 127 := ⟨(k.toInt + 127).toNat, by omega⟩
  have hk : k + 127#32 = BitVec.ofNat 32 n := by
    apply BitVec.eq_of_toInt_eq
    rw [BitVec.toInt_add, toInt_small n (by omega), hn, show (127#32).toInt = 127 by decide]
    apply Int.bmod_eq_of_le <;> omega
  obtain ⟨f1, f2, f3⟩ := word_fields ⟨n, by omega⟩
  unfold wordAt
  rw [hk, show k.toInt = (n : ℤ) - 127 by omega]
  exact ieee_pow _ n (by omega) (by omega) f1 f2 f3

/-- Where both halves are exponents of normal numbers, the product denotes two to the power `e`. -/
theorem pow2At_eq (e : BitVec 32) (h1 : -252 ≤ e.toInt) (h2 : e.toInt ≤ 254) : pow2At e = (((2 : ℝ) ^ e.toInt : ℝ) : EReal) := by
  have ha : (e.sshiftRight 1).toInt = e.toInt / 2 := by
    rw [BitVec.toInt_sshiftRight, Int.shiftRight_eq_div_pow]; rfl
  have hb : (e - e.sshiftRight 1).toInt = e.toInt - e.toInt / 2 := by
    rw [BitVec.toInt_sub, ha]
    apply Int.bmod_eq_of_le <;> omega
  unfold pow2At
  rw [wordAt_eq _ (by omega) (by omega), wordAt_eq _ (by omega) (by omega), ha, hb, ← EReal.coe_mul, ← zpow_add₀ (by norm_num)]
  congr 2
  omega

/-- One step of the search, at one value. -/
def bisectAt (v : EReal) (s k : BitVec 32) : BitVec 32 := if pow2At (k + s) ≤ v then k + s else k

/-- The search, at one value. -/
def searchAt (v : EReal) : BitVec 32 :=
  bisectAt v 1#32 (bisectAt v 2#32 (bisectAt v 4#32 (bisectAt v 8#32 (bisectAt v 16#32 (bisectAt v 32#32 (bisectAt v 64#32 (bisectAt v 128#32
    4294967170#32)))))))

/-- The search's invariant: `r` lies between two to the power `k` and two to the power `k + n`. -/
structure Between (r : ℝ) (k : BitVec 32) (n : ℕ) : Prop where
  least : -126 ≤ k.toInt
  low : (2 : ℝ) ^ k.toInt ≤ r
  high : r < (2 : ℝ) ^ (k.toInt + n)

/-- A step halves the interval. -/
theorem Between.step {r : ℝ} (hr : r < (2 : ℝ) ^ (128 : ℤ)) {k : BitVec 32} {n : ℕ} (hn : n ≤ 127 ∨ (n = 128 ∧ k.toInt = -126)) (h : Between r k (2 * n)) :
    Between r (bisectAt (r : EReal) (BitVec.ofNat 32 n) k) n := by
  obtain ⟨h0, h1, h2⟩ := h
  have hk : k.toInt < 128 := (zpow_lt_zpow_iff_right₀ (by norm_num : (1 : ℝ) < 2)).mp (lt_of_le_of_lt h1 hr)
  have hs : (k + BitVec.ofNat 32 n).toInt = k.toInt + n := by
    rw [BitVec.toInt_add, toInt_small n (by omega)]
    apply Int.bmod_eq_of_le <;> omega
  unfold bisectAt
  rw [pow2At_eq _ (by omega) (by omega), hs]
  by_cases hc : (2 : ℝ) ^ (k.toInt + n) ≤ r
  · rw [if_pos (EReal.coe_le_coe_iff.mpr hc)]
    refine ⟨by omega, by rw [hs]; exact hc, ?_⟩
    rw [hs]
    convert h2 using 2
    push_cast; ring
  · rw [if_neg (fun h => hc (EReal.coe_le_coe_iff.mp h))]
    exact ⟨h0, h1, not_le.mp hc⟩

/-- The search finds the exponent of the power of two below a positive normal number. -/
theorem searchAt_spec {r : ℝ} (h0 : (2 : ℝ) ^ (-126 : ℤ) ≤ r) (hr : r < (2 : ℝ) ^ (128 : ℤ)) : Between r (searchAt (r : EReal)) 1 := by
  have s0 : Between r 4294967170#32 (2 * 128) := by
    refine ⟨by decide, h0, lt_trans hr ?_⟩
    exact (zpow_lt_zpow_iff_right₀ (by norm_num : (1 : ℝ) < 2)).mpr (by decide)
  have s1 := Between.step hr (Or.inr ⟨rfl, by decide⟩) s0
  have s2 := Between.step (n := 64) hr (Or.inl (by decide)) s1
  have s3 := Between.step (n := 32) hr (Or.inl (by decide)) s2
  have s4 := Between.step (n := 16) hr (Or.inl (by decide)) s3
  have s5 := Between.step (n := 8) hr (Or.inl (by decide)) s4
  have s6 := Between.step (n := 4) hr (Or.inl (by decide)) s5
  have s7 := Between.step (n := 2) hr (Or.inl (by decide)) s6
  exact Between.step (n := 1) hr (Or.inl (by decide)) s7

/-- The floor of the logarithm to base two. -/
theorem Between.floor_log {r : ℝ} {k : BitVec 32} (h : Between r k 1) : ⌊Real.log r / Real.log 2⌋ = k.toInt := by
  obtain ⟨-, h1, h2⟩ := h
  have hl : 0 < Real.log 2 := Real.log_pos (by norm_num)
  have hp : (0 : ℝ) < (2 : ℝ) ^ k.toInt := zpow_pos (by norm_num) _
  rw [Int.floor_eq_iff]
  constructor
  · rw [le_div_iff₀ hl, ← Real.log_zpow]
    exact Real.log_le_log hp h1
  · rw [div_lt_iff₀ hl]
    have := Real.log_lt_log (lt_of_lt_of_le hp h1) h2
    rw [Real.log_zpow] at this
    push_cast at this
    exact this

end Cert.KernelIdeal.Hand

end
-- ==== Proof.Expo.lean ====
module

public import proofs.«01_k».proof.Proof.Power
public import proofs.«01_k».proof.Proof.Gen.ReferenceIdeal.Skeleton

@[expose] public section

noncomputable section

namespace Cert.KernelIdeal.Hand

open Cert.KernelIdeal.Gen
open Idealize.ShloMosaic Idealize.SL.Sem

/-- The kernel's product of two words, read at an index. -/
theorem pow2_at (k : IVec S192x1 32) (i : S192x1.Idx) : pow2 (F := Ideal) k i = pow2At (k i) := rfl

/-- A step of the kernel's search, read at an index. -/
theorem bisect_at (v : FVec Ideal S192x1 .f32) (s : BitVec 32) (k : IVec S192x1 32) (i : S192x1.Idx) :
    bisect v s k i = bisectAt (v i) s (k i) := by
  have e : bisect v s k i = Scalar.select (BitVec.ofBool (decide (pow2At (k i + s) ≤ v i))) (k i + s) (k i) := rfl
  rw [e]
  unfold Scalar.select bisectAt
  by_cases h : pow2At (k i + s) ≤ v i <;> simp [h]

/-- The kernel's search, read at an index. -/
theorem search_at (v : FVec Ideal S192x1 .f32) (i : S192x1.Idx) : search v i = searchAt (v i) := by
  unfold search searchAt
  simp only [bisect_at]
  rfl

/-- Whether a value lies in the normal range. -/
def NormalAt (v : EReal) : Prop := Ideal.ofBits .f32 0x00800000#32 ≤ v ∧ v ≤ Ideal.ofBits .f32 0x7F7FFFFF#32

open Classical in
/-- The kernel's exponent for a row of greatest magnitude `a` whose 448th is `v`. -/
def expoAt (a v : EReal) : BitVec 32 := if a = 0 then 0#32 else if NormalAt v then searchAt v + 1#32 else 0#32

open Classical in
/-- The reference's exponent for such a row. -/
def refAt (a v : EReal) : EReal :=
  if a = 0 then 0 else if NormalAt v then Ideal.liftRound Int.floor (Ideal.div (Ideal.log v) (Ideal.log (Ideal.ofBits .f32 0x40000000#32))) + 1 else 0

/-- The word of zeros denotes zero. -/
theorem ofBits_zero : Ideal.ofBits .f32 0x00000000#32 = 0 := by
  show Ideal.ieee 8 23 (0x00000000#32) = (0 : EReal)
  simp [Ideal.ieee]

/-- The word of one. -/
theorem ofBits_one : Ideal.ofBits .f32 0x3F800000#32 = 1 := by
  rw [show Ideal.ofBits .f32 0x3F800000#32 = wordAt 0#32 by rfl, wordAt_eq _ (by decide) (by decide)]
  simp

/-- The word of two. -/
theorem ofBits_two : Ideal.ofBits .f32 0x40000000#32 = ((2 : ℝ) : EReal) := by
  rw [show Ideal.ofBits .f32 0x40000000#32 = wordAt 1#32 by rfl, wordAt_eq _ (by decide) (by decide)]
  simp

/-- The least normal number. -/
theorem ofBits_tiny : Ideal.ofBits .f32 0x00800000#32 = (((2 : ℝ) ^ (-126 : ℤ) : ℝ) : EReal) := by
  rw [show Ideal.ofBits .f32 0x00800000#32 = wordAt 4294967170#32 by rfl, wordAt_eq _ (by decide) (by decide)]
  rfl

/-- The greatest finite number is below two to the power 128. -/
theorem ofBits_max : Ideal.ofBits .f32 0x7F7FFFFF#32 < (((2 : ℝ) ^ (128 : ℤ) : ℝ) : EReal) := by
  have h : ((0x7F7FFFFF#32).extractLsb' (8 + 23) 1 == 1#1) = false ∧ ((0x7F7FFFFF#32).extractLsb' 23 8).toNat = 254
      ∧ ((0x7F7FFFFF#32).extractLsb' 0 23).toNat = 8388607 := by decide
  obtain ⟨h1, h2, h3⟩ := h
  have e : Ideal.ieee 8 23 (0x7F7FFFFF#32) = (((1 : ℝ) * ((2 ^ 23 + 8388607 : ℕ) : ℝ) * (2 : ℝ) ^ ((254 : ℤ) - 127 - 23) : ℝ) : EReal) := by
    unfold Ideal.ieee
    simp only [h1, h2, h3]
    norm_num
  show Ideal.ieee 8 23 (0x7F7FFFFF#32) < (((2 : ℝ) ^ (128 : ℤ) : ℝ) : EReal)
  rw [e, EReal.coe_lt_coe_iff]
  norm_num

/-- A comparison's bit chooses as the comparison does. -/
theorem select_ofBool {α : Type} (p : Prop) [Decidable p] (a b : α) : Scalar.select (BitVec.ofBool (decide p)) a b = if p then a else b := by
  unfold Scalar.select
  by_cases h : p <;> simp [h]

/-- Two comparisons' bits, one and the other, choose as the conjunction does. -/
theorem select_and {α : Type} (p q : Prop) [Decidable p] [Decidable q] (a b : α) :
    Scalar.select (IntOp.andi (BitVec.ofBool (decide p)) (BitVec.ofBool (decide q))) a b = if p ∧ q then a else b := by
  unfold Scalar.select IntOp.andi
  by_cases h : p <;> by_cases h' : q <;> simp [h, h']

/-- The kernel's exponents, from any two columns, read at an index. -/
theorem expo_form (a v : FVec Ideal S192x1 .f32) (i : S192x1.Idx) :
    select (cmpf .oeq a (broadcast S192x1 (Scalar.ofBits .f32 0x00000000#32))) (broadcast S192x1 0#32)
      (select (normal v) (addi (search v) (broadcast S192x1 1#32)) (broadcast S192x1 0#32)) i = expoAt (a i) (v i) := by
  have e : select (cmpf .oeq a (broadcast S192x1 (Scalar.ofBits .f32 0x00000000#32))) (broadcast S192x1 0#32)
      (select (normal v) (addi (search v) (broadcast S192x1 1#32)) (broadcast S192x1 0#32)) i
      = Scalar.select (BitVec.ofBool (decide (a i = Ideal.ofBits .f32 0x00000000#32))) 0#32
      (Scalar.select (IntOp.andi (BitVec.ofBool (decide (Ideal.ofBits .f32 0x00800000#32 ≤ v i)))
        (BitVec.ofBool (decide (v i ≤ Ideal.ofBits .f32 0x7F7FFFFF#32)))) (search v i + 1#32) 0#32) := rfl
  rw [e, select_ofBool, select_and, search_at, ofBits_zero]
  unfold expoAt NormalAt
  congr

/-- The kernel's exponents, read at an index. -/
theorem expo_at (x : Vec Ideal S192x3584 .bf16) (i : S192x1.Idx) : expo x i = expoAt (k0_pay2 x i) (k0_pay3 x i) := by
  unfold expo
  exact expo_form _ _ i

/-- The reference's exponents, as a function of the two columns that they come from. -/
def refV (a v : FVec Ideal S192x1 .f32) : FVec Ideal S192x1 .f32 :=
  select (cmpf .oeq a (broadcast S192x1 (Scalar.ofBits .f32 0x00000000#32))) (broadcast S192x1 (Scalar.ofBits .f32 0x00000000#32))
    (select (normal v) (addf (floor (divf (log v) (log (broadcast S192x1 (Scalar.ofBits .f32 0x40000000#32)))))
      (broadcast S192x1 (Scalar.ofBits .f32 0x3F800000#32))) (broadcast S192x1 (Scalar.ofBits .f32 0x00000000#32)))

/-- The reference's exponents, from any two columns, read at an index. -/
theorem ref_form (a v : FVec Ideal S192x1 .f32) (i : S192x1.Idx) : refV a v i = refAt (a i) (v i) := by
  have e : refV a v i
      = Scalar.select (BitVec.ofBool (decide (a i = Ideal.ofBits .f32 0x00000000#32))) (Ideal.ofBits .f32 0x00000000#32)
      (Scalar.select (IntOp.andi (BitVec.ofBool (decide (Ideal.ofBits .f32 0x00800000#32 ≤ v i)))
        (BitVec.ofBool (decide (v i ≤ Ideal.ofBits .f32 0x7F7FFFFF#32))))
        (Ideal.liftRound Int.floor (Ideal.div (Ideal.log (v i)) (Ideal.log (Ideal.ofBits .f32 0x40000000#32))) + Ideal.ofBits .f32 0x3F800000#32)
        (Ideal.ofBits .f32 0x00000000#32)) := rfl
  rw [e, select_ofBool, select_and, ofBits_zero, ofBits_one]
  unfold refAt NormalAt
  congr

/-- The reference's exponents come from the columns of the kernel. -/
theorem ref_eq (x : Vec Ideal S192x3584 .bf16) : Cert.ReferenceIdeal.Gen.k0_pay3 x = refV (k0_pay2 x) (k0_pay3 x) := rfl

/-- The reference's exponents, read at an index. -/
theorem ref_at (x : Vec Ideal S192x3584 .bf16) (i : S192x1.Idx) :
    Cert.ReferenceIdeal.Gen.k0_pay3 x i = refAt (k0_pay2 x i) (k0_pay3 x i) := by
  rw [ref_eq]
  exact ref_form _ _ i

/-- A normal value is a real number between the bounds of the search. -/
theorem NormalAt.real {v : EReal} (h : NormalAt v) : ∃ r : ℝ, v = (r : EReal) ∧ (2 : ℝ) ^ (-126 : ℤ) ≤ r ∧ r < (2 : ℝ) ^ (128 : ℤ) := by
  obtain ⟨h1, h2⟩ := h
  rw [ofBits_tiny] at h1
  have h3 := lt_of_le_of_lt h2 ofBits_max
  lift v to ℝ using ⟨ne_top_of_lt h3, ne_bot_of_gt (lt_of_lt_of_le (EReal.bot_lt_coe _) h1)⟩
  exact ⟨v, rfl, EReal.coe_le_coe_iff.mp h1, EReal.coe_lt_coe_iff.mp h3⟩

/-- The kernel's exponents lie in the range where a power of two is a product of two normal words. -/
theorem expoAt_range (a v : EReal) : -125 ≤ (expoAt a v).toInt ∧ (expoAt a v).toInt ≤ 128 ∧ refAt a v = (((expoAt a v).toInt : ℝ) : EReal) := by
  unfold expoAt refAt
  by_cases ha : a = 0
  · rw [if_pos ha, if_pos ha]; exact ⟨by decide, by decide, by simp⟩
  rw [if_neg ha, if_neg ha]
  by_cases hn : NormalAt v
  · rw [if_pos hn, if_pos hn]
    obtain ⟨r, rfl, h1, h2⟩ := hn.real
    have hb := searchAt_spec h1 h2
    have hk : (searchAt (r : EReal)).toInt < 128 := (zpow_lt_zpow_iff_right₀ (by norm_num : (1 : ℝ) < 2)).mp (lt_of_le_of_lt hb.low h2)
    have hl := hb.least
    have hs : (searchAt (r : EReal) + 1#32).toInt = (searchAt (r : EReal)).toInt + 1 := by
      rw [BitVec.toInt_add, show (1#32).toInt = 1 by decide]
      apply Int.bmod_eq_of_le <;> omega
    refine ⟨by omega, by omega, ?_⟩
    have hr : 0 < r := lt_of_lt_of_le (by positivity) h1
    have hl2 : Real.log 2 ≠ 0 := (Real.log_pos (by norm_num)).ne'
    rw [hs, ofBits_two, Ideal.log_coe, Ideal.log_coe, if_neg (not_le.mpr hr), if_neg (by norm_num), Ideal.div_coe hl2, ← EReal.coe_mul,
      Ideal.liftRound_coe, mul_one_div, hb.floor_log]
    push_cast
    rfl
  · rw [if_neg hn, if_neg hn]; exact ⟨by decide, by decide, by simp⟩

/-- Two to an integer power, by the reference's function. -/
theorem exp2_int (k : ℤ) : Ideal.exp2 (((k : ℝ) : ℝ) : EReal) = (((2 : ℝ) ^ k : ℝ) : EReal) := by
  rw [Ideal.exp2_coe]
  congr 1
  exact Real.rpow_intCast 2 k

/-- A row's scale. -/
theorem scale_at (a v : EReal) : pow2At (expoAt a v) = (((2 : ℝ) ^ (expoAt a v).toInt : ℝ) : EReal) ∧ Ideal.exp2 (refAt a v) = pow2At (expoAt a v) := by
  obtain ⟨h1, h2, h3⟩ := expoAt_range a v
  have h := pow2At_eq (expoAt a v) (by omega) (by omega)
  exact ⟨h, by rw [h, h3, exp2_int]⟩

/-- A row's inverse scale. -/
theorem inv_at (a v : EReal) : Ideal.exp2 (0 - refAt a v) = pow2At (0#32 - expoAt a v) := by
  obtain ⟨h1, h2, h3⟩ := expoAt_range a v
  have hs : (0#32 - expoAt a v).toInt = -(expoAt a v).toInt := by
    rw [BitVec.toInt_sub, show (0#32).toInt = 0 by decide, zero_sub]
    apply Int.bmod_eq_of_le <;> omega
  rw [pow2At_eq _ (by omega) (by omega), hs, h3, ← exp2_int]
  congr 1
  rw [zero_sub]
  push_cast
  rfl

/-- Two columns of powers of two are equal where they are equal at each index. -/
theorem pow2_eq_exp2 (e : IVec S192x1 32) (f : FVec Ideal S192x1 .f32) (h : ∀ i, pow2At (e i) = Ideal.exp2 (f i)) : pow2 (F := Ideal) e = exp2 f :=
  funext h

/-- The two programs give the tokens one scale. -/
theorem scale_eq (x : Vec Ideal S192x3584 .bf16) : scaleV x = Cert.ReferenceIdeal.Gen.k0_pay5 x :=
  pow2_eq_exp2 _ _ fun i => by rw [expo_at, ref_at, (scale_at _ _).2]

/-- Negated exponents, read at an index. -/
theorem neg_at (e : IVec S192x1 32) (i : S192x1.Idx) : subi (broadcast S192x1 0#32) e i = 0#32 - e i := rfl

/-- Negated exponents of the reference, read at an index. -/
theorem negf_at (f : FVec Ideal S192x1 .f32) (i : S192x1.Idx) : subf (broadcast S192x1 (Scalar.ofBits .f32 0x00000000#32)) f i = 0 - f i := by
  rw [← ofBits_zero]; rfl

/-- The two programs divide by one scale. -/
theorem inv_eq (x : Vec Ideal S192x3584 .bf16) :
    (pow2 (subi (broadcast S192x1 0#32) (expo x)) : FVec Ideal S192x1 .f32)
      = exp2 (subf (broadcast S192x1 (Scalar.ofBits .f32 0x00000000#32)) (Cert.ReferenceIdeal.Gen.k0_pay3 x)) :=
  pow2_eq_exp2 _ _ fun i => by rw [neg_at, negf_at, expo_at, ref_at, inv_at]

/-- The two programs give the tokens the same codes. -/
theorem codes_eq (x : Vec Ideal S192x3584 .bf16) : codesV x = Cert.ReferenceIdeal.Gen.k0_pay4 x := by
  unfold codesV
  rw [inv_eq]
  rfl

end Cert.KernelIdeal.Hand

end
-- ==== Proof.Sum.lean ====
module

public import proofs.«01_k».proof.Proof.Bytes
public import proofs.«01_k».proof.Proof.Expo

@[expose] public section

noncomputable section

namespace Cert.KernelIdeal.Hand

open Cert.KernelIdeal.Gen
open Idealize.ShloMosaic Idealize.SL.Sem

/-- A sum of real numbers, as extended real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A nonnegative real number multiplies a sum of extended real numbers term by term. -/
theorem sum_mul_real (n : ℕ) (f : ℕ → EReal) (r : ℝ) (h : 0 ≤ r) : (∑ g ∈ Finset.range n, f g) * (r : EReal) = ∑ g ∈ Finset.range n, f g * (r : EReal) := by
  induction n with
  | zero => simp
  | succ n ih =>
    rw [Finset.sum_range_succ, Finset.sum_range_succ, EReal.right_distrib_of_nonneg_of_ne_top (EReal.coe_nonneg.mpr h) (EReal.coe_ne_top r), ih]

/-- Codes twice over, against the biased nibbles above the offset: the offset takes the bias away. -/
theorem four_quarters (xc lo hi : ℕ → ℝ) (u : ℝ) :
    ∑ i ∈ Finset.range 256, (if i < 128 then xc i else xc (i - 128)) *
        (if i < 64 then (lo i + 8) * u else if i - 64 < 64 then (hi (i - 64) + 8) * u else -8 * u)
      = u * ∑ i ∈ Finset.range 64, (xc i * lo i + xc (64 + i) * hi i) := by
  rw [show 256 = 64 + (64 + (64 + 64)) by rfl, Finset.sum_range_add, Finset.sum_range_add, Finset.sum_range_add,
    ← Finset.sum_add_distrib, ← Finset.sum_add_distrib, ← Finset.sum_add_distrib, Finset.mul_sum]
  refine Finset.sum_congr rfl fun i hi' => ?_
  have h := Finset.mem_range.mp hi'
  rw [if_pos (by omega), if_pos h, if_pos (by omega), if_neg (by omega), if_pos (by omega), if_neg (by omega), if_neg (by omega), if_neg (by omega),
    if_neg (by omega), if_neg (by omega), if_neg (by omega),
    show 64 + i - 64 = i by omega, show 64 + (64 + i) - 128 = i by omega, show 64 + (64 + (64 + i)) - 128 = 64 + i by omega]
  ring

/-- A sum over an even number of terms, two by two. -/
theorem sum_pairs (n : ℕ) (G : ℕ → ℝ) : ∑ y ∈ Finset.range (2 * n), G y = ∑ i ∈ Finset.range n, (G (2 * i) + G (2 * i + 1)) := by
  induction n with
  | zero => simp
  | succ n ih => rw [show 2 * (n + 1) = 2 * n + 1 + 1 by ring, Finset.sum_range_succ, Finset.sum_range_succ, Finset.sum_range_succ, ih, add_assoc]

/-- One group's step at an index. -/
theorem gstep_at (acc : FVec Ideal S192x256 .f32) (wv : Vec Ideal S64x256 .i8) (xg : Vec Ideal S192x128 .fp8e4m3) (sv : Vec Ideal S1x256 .f32)
    (t : Fin 192) (n : Fin 256) (xc lo hi : ℕ → ℝ) (hx : ∀ x : Fin 128, xg (ValueIdx.ix2 t x) = ((xc x.val : ℝ) : EReal))
    (hl : ∀ p : Fin 64, (loInt (wv (ValueIdx.ix2 p n)) : ℝ) = lo p.val) (hh : ∀ p : Fin 64, (hiInt (wv (ValueIdx.ix2 p n)) : ℝ) = hi p.val) :
    gstep acc wv xg sv (ValueIdx.ix2 t n) = acc (ValueIdx.ix2 t n)
      + (((2 : ℝ) ^ (-9 : ℤ) * ∑ i ∈ Finset.range 64, (xc i * lo i + xc (64 + i) * hi i) : ℝ) : EReal) * sv (ValueIdx.ix2 0 n) := by
  have hsum : (∑ x : Fin 256, (if h : x.val < 128 then xg (ValueIdx.ix2 t ⟨x.val, h⟩) else xg (ValueIdx.ix2 t ⟨x.val - 128, by omega⟩))
      * (if h : x.val < 64 then asF8 (F := Ideal) (loWords wv) (ValueIdx.ix2 ⟨x.val, h⟩ n)
        else if h' : x.val - 64 < 64 then asF8 (F := Ideal) (hiWords wv) (ValueIdx.ix2 ⟨x.val - 64, h'⟩ n)
        else k0_pay39 (F := Ideal) (ValueIdx.ix2 ⟨x.val - 64 - 64, by omega⟩ n)) : EReal)
      = (((2 : ℝ) ^ (-9 : ℤ) * ∑ i ∈ Finset.range 64, (xc i * lo i + xc (64 + i) * hi i) : ℝ) : EReal) := by
    rw [← four_quarters, ← Fin.sum_univ_eq_sum_range (fun i => (if i < 128 then xc i else xc (i - 128)) *
        (if i < 64 then (lo i + 8) * (2 : ℝ) ^ (-9 : ℤ) else if i - 64 < 64 then (hi (i - 64) + 8) * (2 : ℝ) ^ (-9 : ℤ) else -8 * (2 : ℝ) ^ (-9 : ℤ))) 256,
      coe_sum]
    refine Finset.sum_congr rfl fun x _ => ?_
    rw [EReal.coe_mul]
    congr 1
    · split_ifs with h
      · exact hx ⟨x.val, h⟩
      · exact hx ⟨x.val - 128, by omega⟩
    · split_ifs with h h'
      · rw [asF8_lo, hl]
      · rw [asF8_hi, hh]
      · exact offset_at _ _
  rw [← hsum]
  pointwise [gstep, decoded]
  rfl

/-- The sum over the first groups at an index. -/
theorem accum_at (W : Fin 28 → Vec Ideal S64x256 .i8) (X : Fin 28 → Vec Ideal S192x128 .fp8e4m3) (S : Fin 28 → Vec Ideal S1x256 .f32)
    (t : Fin 192) (n : Fin 256) (xc lo hi : ℕ → ℕ → ℝ) (s : ℕ → EReal)
    (hx : ∀ (g : Fin 28) (x : Fin 128), X g (ValueIdx.ix2 t x) = ((xc g.val x.val : ℝ) : EReal))
    (hl : ∀ (g : Fin 28) (p : Fin 64), (loInt (W g (ValueIdx.ix2 p n)) : ℝ) = lo g.val p.val)
    (hh : ∀ (g : Fin 28) (p : Fin 64), (hiInt (W g (ValueIdx.ix2 p n)) : ℝ) = hi g.val p.val)
    (hs : ∀ g : Fin 28, S g (ValueIdx.ix2 0 n) = s g.val) (m : ℕ) (hm : m ≤ 28) :
    accum W X S m hm (ValueIdx.ix2 t n) = ∑ g ∈ Finset.range m,
      (((2 : ℝ) ^ (-9 : ℤ) * ∑ i ∈ Finset.range 64, (xc g i * lo g i + xc g (64 + i) * hi g i) : ℝ) : EReal) * s g := by
  induction m with
  | zero =>
    rw [Finset.range_zero, Finset.sum_empty]
    exact ofBits_zero
  | succ m ih =>
    rw [Finset.sum_range_succ, ← ih (Nat.le_of_succ_le hm), ← hs ⟨m, hm⟩]
    exact gstep_at _ _ _ _ t n (xc m) (lo m) (hi m) (hx ⟨m, hm⟩) (hl ⟨m, hm⟩) (hh ⟨m, hm⟩)

/-- The word of 512. -/
theorem ofBits_512 : Ideal.ofBits .f32 0x44000000#32 = ((512 : ℝ) : EReal) := by
  rw [show Ideal.ofBits .f32 0x44000000#32 = wordAt 9#32 by rfl, wordAt_eq _ (by decide) (by decide), show (9#32).toInt = ((9 : ℕ) : ℤ) by decide, zpow_natCast]
  norm_num

/-- One stored tile at an index: the unit of the nibbles and the 512 cancel. -/
theorem tileOf_at (W : Fin 28 → Vec Ideal S64x256 .i8) (X : Fin 28 → Vec Ideal S192x128 .fp8e4m3) (S : Fin 28 → Vec Ideal S1x256 .f32)
    (xs : Vec Ideal S192x128 .f32)
    (t : Fin 192) (n : Fin 256) (xc lo hi : ℕ → ℕ → ℝ) (s : ℕ → EReal) (r : EReal)
    (hx : ∀ (g : Fin 28) (x : Fin 128), X g (ValueIdx.ix2 t x) = ((xc g.val x.val : ℝ) : EReal))
    (hl : ∀ (g : Fin 28) (p : Fin 64), (loInt (W g (ValueIdx.ix2 p n)) : ℝ) = lo g.val p.val)
    (hh : ∀ (g : Fin 28) (p : Fin 64), (hiInt (W g (ValueIdx.ix2 p n)) : ℝ) = hi g.val p.val)
    (hs : ∀ g : Fin 28, S g (ValueIdx.ix2 0 n) = s g.val) (hr : ∀ l : Fin 128, xs (ValueIdx.ix2 t l) = r) :
    tileOf W X S xs (ValueIdx.ix2 t n) = (∑ g ∈ Finset.range 28,
      ((∑ i ∈ Finset.range 64, (xc g i * lo g i + xc g (64 + i) * hi g i) : ℝ) : EReal) * s g) * r := by
  have e : tileOf W X S xs (ValueIdx.ix2 t n) = accum W X S 28 (Nat.le_refl _) (ValueIdx.ix2 t n) * Ideal.ofBits .f32 0x44000000#32
      * (if h : n.val < 128 then xs (ValueIdx.ix2 t ⟨n.val, h⟩) else xs (ValueIdx.ix2 t ⟨n.val - 128, by omega⟩)) := by
    pointwise [tileOf]
    rfl
  have hc : (if h : n.val < 128 then xs (ValueIdx.ix2 t ⟨n.val, h⟩) else xs (ValueIdx.ix2 t ⟨n.val - 128, by omega⟩)) = r := by
    split_ifs <;> exact hr _
  rw [e, hc, accum_at W X S t n xc lo hi s hx hl hh hs, ofBits_512, sum_mul_real _ _ _ (by norm_num)]
  congr 1
  refine Finset.sum_congr rfl fun g _ => ?_
  rw [mul_right_comm, ← EReal.coe_mul]
  congr 2
  rw [show (2 : ℝ) ^ (-9 : ℤ) = 1 / 512 by norm_num]
  ring

end Cert.KernelIdeal.Hand

end
-- ==== Proof.Perm.lean ====
module

public import proofs.«01_k».proof.Proof.Group
public import proofs.«01_k».proof.Proof.Expo
public import Idealize.ShloMosaic.Lib.Pipeline.ValueKit

@[expose] public section

noncomputable section

namespace Cert.KernelIdeal.Hand

open Cert.KernelIdeal.Gen
open Idealize.ShloMosaic Idealize.SL.Sem

/-- The row of the permutation matrix that holds column `d`'s one, as the kernel computes it. -/
def wantWord (d : BitVec 32) : BitVec 32 :=
  let m := Scalar.select (Scalar.cmpi .eq 128#32 0#32) 1#32 128#32
  let r := IntOp.remsi .vector d m
  let c := IntOp.andi (IntOp.xori (IntOp.cmpi .slt r 0#32) (Scalar.cmpi .slt m 0#32)) (IntOp.cmpi .ne r 0#32)
  let w := Scalar.select c (IntOp.addi r m) r
  IntOp.addi (IntOp.subi d w) (Scalar.select (IntOp.cmpi .slt w 64#32) (IntOp.muli 2#32 w) (IntOp.addi (IntOp.muli 2#32 (IntOp.subi w 64#32)) 1#32))

/-- The column that a permuted column holds: within each group of 128, the even columns first. -/
def source (n : ℕ) : ℕ := n - n % 128 + (if n % 128 < 64 then 2 * (n % 128) else 2 * (n % 128 - 64) + 1)

/-- The kernel's words are these numbers. -/
theorem wantWord_eq : ∀ d : Fin 256, wantWord (BitVec.ofNat 32 d.val) = BitVec.ofNat 32 (source d.val) ∧ source d.val < 256 := by
  decide +kernel

/-- The permutation matrix's bits, as words compared. -/
theorem matrix_bit (k d : Fin 256) :
    k0_pay21 (ValueIdx.ix2 k d) = IntOp.cmpi .eq (BitVec.ofNat 32 (0 * 256 + k.val)) (wantWord (BitVec.ofNat 32 (0 * 256 + d.val))) := rfl

/-- The permutation matrix's bits: one where the row is the column's source. -/
theorem matrix_at (k d : Fin 256) : k0_pay21 (ValueIdx.ix2 k d) = BitVec.ofBool (decide (k.val = source d.val)) := by
  obtain ⟨h1, h2⟩ := wantWord_eq d
  rw [matrix_bit, Nat.zero_mul, Nat.zero_add, Nat.zero_add, h1]
  show BitVec.ofBool (BitVec.ofNat 32 k.val == BitVec.ofNat 32 (source d.val)) = _
  congr 1
  rw [Bool.eq_iff_iff, beq_iff_eq, decide_eq_true_iff]
  constructor
  · intro h
    have := congrArg BitVec.toNat h
    rw [BitVec.toNat_ofNat, BitVec.toNat_ofNat] at this
    omega
  · intro h; rw [h]

/-- A block of the permuted codes, read at an index: the one in its column of the matrix picks one code. -/
theorem xBlock_at (codes : Vec Ideal S192x3584 .fp8e4m3) (b : Fin 14) (t : Fin 192) (d : Fin 256) :
    xBlock codes b (ValueIdx.ix2 t d) = View.ld codes (cRect b) (ValueIdx.ix2 t ⟨source d.val, (wantWord_eq d).2⟩) := by
  pointwise [xBlock, k0_pay24, k0_pay22]
  rw [Finset.sum_eq_single (⟨source d.val, (wantWord_eq d).2⟩ : Fin 256)]
  · show Scalar.select (k0_pay21 (ValueIdx.ix2 ⟨source d.val, (wantWord_eq d).2⟩ d)) _ _ = _
    rw [matrix_at, select_ofBool, if_pos rfl]
  · intro k _ hk
    show Scalar.select (k0_pay21 (ValueIdx.ix2 k d)) _ _ = _
    rw [matrix_at, select_ofBool, if_neg fun h => hk (Fin.ext h)]
  · intro h; exact absurd (Finset.mem_univ _) h

/-- A permuted column's source lies in the same block of 256 columns, and in the array. -/
theorem source_lt (n : ℕ) (h : n < 3584) : source n < 3584 := by
  unfold source; split <;> omega

/-- The permuted codes as one function. -/
def permuted (codes : Vec Ideal S192x3584 .fp8e4m3) : Vec Ideal S192x3584 .fp8e4m3 := fun i =>
  codes (ValueIdx.ix2 ⟨(i 0).val, (i 0).isLt⟩ ⟨source (i 1).val, source_lt _ (i 1).isLt⟩)

/-- Each block of the permuted codes is that function's. -/
theorem xBlock_eq (codes : Vec Ideal S192x3584 .fp8e4m3) (b : Fin 14) (x : (cRect b).shape.Idx) :
    xBlock codes b x = permuted codes ((cRect b).emb x) := by
  suffices key : ∀ (t : Fin 192) (d : Fin 256), xBlock codes b (ValueIdx.ix2 t d) = permuted codes ((cRect b).emb (ValueIdx.ix2 t d)) by
    have hx : x = ValueIdx.ix2 (⟨(x 0).val, (x 0).isLt⟩ : Fin 192) (⟨(x 1).val, (x 1).isLt⟩ : Fin 256) := by
      funext a; fin_cases a <;> rfl
    exact hx ▸ key _ _
  intro t d
  refine (xBlock_at codes b t d).trans (congrArg codes (funext fun a => Fin.ext ?_))
  match a with
  | ⟨0, _⟩ => show 0 + 1 * t.val = 0 + 1 * t.val; rfl
  | ⟨1, _⟩ =>
    show 256 * b.val + 1 * source d.val = source (256 * b.val + 1 * d.val)
    have e : (256 * b.val + 1 * d.val) % 128 = d.val % 128 := by omega
    unfold source
    rw [e]
    omega

/-- The permuted codes. -/
theorem xPerm_eq (codes : Vec Ideal S192x3584 .fp8e4m3) : xPerm codes = permuted codes := by
  funext y
  refine View.canon_apply_of_pieces (permuted codes) _ ?_ y (xPieces_cover codes y)
  intro p hp
  obtain ⟨b, rfl⟩ : ∃ b, p = ⟨cRect b, xBlock codes b⟩ := by
    unfold xPieces at hp
    simp only [List.mem_cons, List.not_mem_nil, or_false] at hp
    rcases hp with h | h | h | h | h | h | h | h | h | h | h | h | h | h <;> exact ⟨_, h⟩
  exact xBlock_eq codes b

end Cert.KernelIdeal.Hand

end
-- ==== Proof.Equal.lean ====
module

public import proofs.«01_k».proof.Proof.Sum
public import proofs.«01_k».proof.Proof.Perm
public import proofs.«01_k».proof.Proof.Final
public import proofs.«01_k».proof.Proof.RefFinal

@[expose] public section

noncomputable section

namespace Cert.KernelIdeal.Hand

open Cert.KernelIdeal.Gen
open Idealize.ShloMosaic Idealize.SL.Sem

/-- An index of an array of two axes, from its two coordinates. -/
theorem idx_eq {a b : ℕ} (i : (⟨2, ![a, b]⟩ : Shape).Idx) :
    i = ValueIdx.ix2 (⟨(i 0).val, (i 0).isLt⟩ : Fin a) (⟨(i 1).val, (i 1).isLt⟩ : Fin b) := by
  funext k; fin_cases k <;> rfl

/-- A block of results at an index: its tile's. -/
theorem yBlock_at {F : FTy → Type} [FloatOps F] (x1 : Vec F S1792x1024 .i8) (x2 : Vec F S28x1024 .f32) (xp : Vec F S192x3584 .fp8e4m3) (xs : Vec F S192x128 .f32)
    (y : S192x1024.Idx) :
    yBlock x1 x2 xp xs y = tile x1 x2 xp xs ⟨(y 1).val / 256, by have : (y 1).val < 1024 := (y 1).isLt; omega⟩
      (ValueIdx.ix2 (⟨(y 0).val, (y 0).isLt⟩ : Fin 192) (⟨(y 1).val % 256, Nat.mod_lt _ (by decide)⟩ : Fin 256)) := by
  refine View.canon_apply_of_pieces (fun y : S192x1024.Idx => tile x1 x2 xp xs ⟨(y 1).val / 256, by have : (y 1).val < 1024 := (y 1).isLt; omega⟩
      (ValueIdx.ix2 (⟨(y 0).val, (y 0).isLt⟩ : Fin 192) (⟨(y 1).val % 256, Nat.mod_lt _ (by decide)⟩ : Fin 256))) _ ?_ y (yPieces_cover x1 x2 xp xs y)
  intro p hp
  obtain ⟨k, rfl⟩ : ∃ k, p = ⟨yRect k, tile x1 x2 xp xs k⟩ := by
    unfold yPieces at hp
    simp only [List.mem_cons, List.not_mem_nil, or_false] at hp
    rcases hp with h | h | h | h <;> exact ⟨_, h⟩
  intro x
  have key : ∀ (k' : Fin 4) (x' : S192x256.Idx), k' = k → x' = x → tile x1 x2 xp xs k x = tile x1 x2 xp xs k' x' := by
    rintro k' x' rfl rfl; rfl
  have hx : (x 1).val < 256 := (x 1).isLt
  refine key _ _ (Fin.ext ?_) (funext fun a => Fin.ext ?_)
  · show (256 * k.val + 1 * (x 1).val) / 256 = k.val
    omega
  · match a with
    | ⟨0, _⟩ => show 0 + 1 * (x 0).val = (x 0).val; omega
    | ⟨1, _⟩ => show (256 * k.val + 1 * (x 1).val) % 256 = (x 1).val; omega

/-- The one formula for a product: the groups' integer sums, each times its scale, times the token's scale. -/
def product (C lo hi : ℕ → ℝ) (s : ℕ → EReal) (r : EReal) : EReal :=
  (∑ g ∈ Finset.range 28, ((∑ i ∈ Finset.range 64, (C (128 * g + 2 * i) * lo (64 * g + i) + C (128 * g + 2 * i + 1) * hi (64 * g + i)) : ℝ) : EReal) * s g) * r

/-- The kernel's products. -/
theorem kernel_at (W : Vec Ideal S1792x19456 .i8) (S : Vec Ideal S28x19456 .f32) (codes : Vec Ideal S192x3584 .fp8e4m3) (xs : Vec Ideal S192x128 .f32)
    (t : Fin 192) (n : Fin 19456) (C lo hi : ℕ → ℝ) (s : ℕ → EReal) (r : EReal)
    (hC : ∀ k : Fin 3584, codes (ValueIdx.ix2 t k) = ((C k.val : ℝ) : EReal))
    (hl : ∀ p : Fin 1792, (loInt (W (ValueIdx.ix2 p n)) : ℝ) = lo p.val) (hh : ∀ p : Fin 1792, (hiInt (W (ValueIdx.ix2 p n)) : ℝ) = hi p.val)
    (hs : ∀ g : Fin 28, S (ValueIdx.ix2 g n) = s g.val) (hr : ∀ l : Fin 128, xs (ValueIdx.ix2 t l) = r) :
    yAll W S (xPerm codes) xs (ValueIdx.ix2 t n) = product C lo hi s r := by
  have hj : n.val / 1024 < 19 := by omega
  have hk : n.val % 1024 / 256 < 4 := by omega
  have hm : n.val % 1024 % 256 < 256 := by omega
  have hw : ∀ (g : Fin 28) (p : Fin 64), View.ld (wBlock W ⟨n.val / 1024, hj⟩) (wRect ⟨n.val % 1024 / 256, hk⟩ g) (ValueIdx.ix2 p (⟨n.val % 1024 % 256, hm⟩ : Fin 256))
      = W (ValueIdx.ix2 (⟨64 * g.val + p.val, by omega⟩ : Fin 1792) n) := by
    intro g p
    refine congrArg W (funext fun a => Fin.ext ?_)
    match a with
    | ⟨0, _⟩ => show 64 * g.val + 1 * p.val = 64 * g.val + p.val; omega
    | ⟨1, _⟩ => show n.val / 1024 * 1024 + (256 * (n.val % 1024 / 256) + 1 * (n.val % 1024 % 256)) = n.val; omega
  have e : yAll W S (xPerm codes) xs (ValueIdx.ix2 t n) = tile (wBlock W ⟨n.val / 1024, hj⟩) (sBlock S ⟨n.val / 1024, hj⟩) (xPerm codes) xs ⟨n.val % 1024 / 256, hk⟩
      (ValueIdx.ix2 t (⟨n.val % 1024 % 256, hm⟩ : Fin 256)) := by
    unfold yAll
    rw [yBlock_at]
  rw [e]
  unfold tile product
  refine (tileOf_at _ _ _ _ t ⟨n.val % 1024 % 256, hm⟩ (fun g x => C (source (128 * g + x))) (fun g p => lo (64 * g + p)) (fun g p => hi (64 * g + p)) s r
    ?_ ?_ ?_ ?_ ?_).trans ?_
  · intro g x
    rw [xPerm_eq]
    have h : 128 * g.val + x.val < 3584 := by omega
    rw [← hC ⟨source (128 * g.val + x.val), source_lt _ h⟩]
    refine congrArg codes (funext fun a => Fin.ext ?_)
    match a with
    | ⟨0, _⟩ => show 0 + 1 * t.val = t.val; omega
    | ⟨1, _⟩ => show source (128 * g.val + 1 * x.val) = source (128 * g.val + x.val); rw [Nat.one_mul]
  · intro g p
    rw [hw]
    exact hl _
  · intro g p
    rw [hw]
    exact hh _
  · intro g
    rw [← hs g]
    refine congrArg S (funext fun a => Fin.ext ?_)
    match a with
    | ⟨0, _⟩ => show g.val + 1 * 0 = g.val; omega
    | ⟨1, _⟩ => show n.val / 1024 * 1024 + (256 * (n.val % 1024 / 256) + 1 * (n.val % 1024 % 256)) = n.val; omega
  · intro l
    rw [← hr l]
    refine congrArg xs (funext fun a => Fin.ext ?_)
    match a with
    | ⟨0, _⟩ => show 0 + 1 * t.val = t.val; omega
    | ⟨1, _⟩ => show 0 + 1 * l.val = l.val; omega
  · refine congrArg (· * r) (Finset.sum_congr rfl fun g _ => congrArg (fun v : ℝ => (v : EReal) * s g) (Finset.sum_congr rfl fun i hm' => ?_))
    have h := Finset.mem_range.mp hm'
    have h1 : source (128 * g + i) = 128 * g + 2 * i := by unfold source; rw [if_pos (by omega)]; omega
    have h2 : source (128 * g + (64 + i)) = 128 * g + 2 * i + 1 := by unfold source; rw [if_neg (by omega)]; omega
    rw [h1, h2]

/-- The reference's products. -/
theorem reference_at (W : Vec Ideal S1792x19456 .i8) (S : Vec Ideal S28x19456 .f32) (codes : Vec Ideal S192x3584 .fp8e4m3) (e : FVec Ideal S192x1 .f32)
    (t : Fin 192) (n : Fin 19456) (C lo hi : ℕ → ℝ) (s : ℕ → EReal)
    (hC : ∀ k : Fin 3584, codes (ValueIdx.ix2 t k) = ((C k.val : ℝ) : EReal))
    (hl : ∀ p : Fin 1792, (loInt (W (ValueIdx.ix2 p n)) : ℝ) = lo p.val) (hh : ∀ p : Fin 1792, (hiInt (W (ValueIdx.ix2 p n)) : ℝ) = hi p.val)
    (hs : ∀ g : Fin 28, S (ValueIdx.ix2 g n) = s g.val) :
    Cert.ReferenceIdeal.Gen.k0_pay1 e codes W S (ValueIdx.ix2 t n) = product C lo hi s (Ideal.exp2 (e (ValueIdx.ix2 t 0))) := by
  have hsum : ∀ g : Fin 28, (∑ y : Fin 128, codes (ValueIdx.ix2 t (⟨g.val * 128 + y.val, by omega⟩ : Fin 3584))
      * ((((if y.val % 2 < 1 then loInt (W (ValueIdx.ix2 (⟨g.val * 64 + y.val / 2, by omega⟩ : Fin 1792) n))
          else hiInt (W (ValueIdx.ix2 (⟨g.val * 64 + y.val / 2, by omega⟩ : Fin 1792) n)) : ℤ) : ℝ) : EReal)))
      = ((∑ i ∈ Finset.range 64, (C (128 * g.val + 2 * i) * lo (64 * g.val + i) + C (128 * g.val + 2 * i + 1) * hi (64 * g.val + i)) : ℝ) : EReal) := by
    intro g
    have hp := sum_pairs 64 (fun y => C (128 * g.val + y) * (if y % 2 < 1 then lo (64 * g.val + y / 2) else hi (64 * g.val + y / 2)))
    have hq : ∑ i ∈ Finset.range 64, (C (128 * g.val + 2 * i) * lo (64 * g.val + i) + C (128 * g.val + 2 * i + 1) * hi (64 * g.val + i))
        = ∑ y ∈ Finset.range (2 * 64), C (128 * g.val + y) * (if y % 2 < 1 then lo (64 * g.val + y / 2) else hi (64 * g.val + y / 2)) := by
      rw [hp]
      refine Finset.sum_congr rfl fun i _ => ?_
      rw [if_pos (by omega), if_neg (by omega), show 2 * i / 2 = i by omega, show (2 * i + 1) / 2 = i by omega]
      rfl
    rw [hq, ← Fin.sum_univ_eq_sum_range (fun y => C (128 * g.val + y) * (if y % 2 < 1 then lo (64 * g.val + y / 2) else hi (64 * g.val + y / 2))) (2 * 64), coe_sum]
    refine Finset.sum_congr rfl fun y _ => ?_
    have hy : y.val < 128 := y.isLt
    rw [EReal.coe_mul, hC ⟨g.val * 128 + y.val, by omega⟩]
    dsimp only
    rw [Nat.mul_comm g.val 128]
    congr 2
    split_ifs
    · rw [hl]; dsimp only; rw [Nat.mul_comm g.val 64]
    · rw [hh]; dsimp only; rw [Nat.mul_comm g.val 64]
  unfold product
  rw [← Fin.sum_univ_eq_sum_range (fun g => ((∑ i ∈ Finset.range 64, (C (128 * g + 2 * i) * lo (64 * g + i) + C (128 * g + 2 * i + 1) * hi (64 * g + i)) : ℝ) : EReal) * s g) 28]
  have hg : (∑ g : Fin 28, ((∑ i ∈ Finset.range 64, (C (128 * g.val + 2 * i) * lo (64 * g.val + i) + C (128 * g.val + 2 * i + 1) * hi (64 * g.val + i)) : ℝ) : EReal) * s g.val)
      = ∑ g : Fin 28, (∑ y : Fin 128, codes (ValueIdx.ix2 t (⟨g.val * 128 + y.val, by omega⟩ : Fin 3584))
      * ((((if y.val % 2 < 1 then loInt (W (ValueIdx.ix2 (⟨g.val * 64 + y.val / 2, by omega⟩ : Fin 1792) n))
          else hiInt (W (ValueIdx.ix2 (⟨g.val * 64 + y.val / 2, by omega⟩ : Fin 1792) n)) : ℤ) : ℝ) : EReal))) * S (ValueIdx.ix2 g n) :=
    Finset.sum_congr rfl fun g _ => by rw [hsum, hs]
  rw [hg]
  pointwise [Cert.ReferenceIdeal.Gen.k0_pay1]
  refine congrArg (· * _) (Finset.sum_congr rfl fun g _ => congrArg (· * _) (Finset.sum_congr rfl fun y _ => congrArg (_ * ·) ?_))
  split_ifs <;> rfl

/-- Codes are finite: they are clipped. -/
theorem codes_real (x : Vec Ideal S192x3584 .bf16) (i : S192x3584.Idx) : ∃ c : ℝ, codesV x i = (c : EReal) := by
  have word : ∀ b : BitVec 32, (b.extractLsb' 23 8).toNat = 135 → ∃ r : ℝ, Ideal.ofBits .f32 b = (r : EReal) := by
    intro b hb
    show ∃ r : ℝ, Ideal.ieee 8 23 b = (r : EReal)
    unfold Ideal.ieee
    dsimp only
    rw [if_neg (by rw [hb]; omega), if_neg (by rw [hb]; omega)]
    exact ⟨_, rfl⟩
  obtain ⟨h, hh⟩ := word 0x43E00000#32 (by decide)
  obtain ⟨l, hl⟩ := word 0xC3E00000#32 (by decide)
  have clip : ∀ v : EReal, ∃ c : ℝ, min (h : EReal) (max (l : EReal) v) = (c : EReal) := by
    intro v
    induction v with
    | bot => exact ⟨min h l, by rw [max_bot_right]; exact (EReal.coe_strictMono.monotone.map_min (a := h) (b := l)).symm⟩
    | top => exact ⟨h, by rw [max_top_right, min_top_right]⟩
    | coe v => exact ⟨min h (max l v), by
      rw [EReal.coe_strictMono.monotone.map_min, EReal.coe_strictMono.monotone.map_max]⟩
  obtain ⟨v, hv⟩ : ∃ v : EReal, codesV x i = min (Ideal.ofBits .f32 0x43E00000#32) (max (Ideal.ofBits .f32 0xC3E00000#32) v) := ⟨_, rfl⟩
  rw [hv, hh, hl]
  exact clip v

/-- A function of the numbers below a bound, as one of all numbers. -/
theorem extend {α : Type} [Zero α] (n : ℕ) (f : Fin n → α) : ∃ F : ℕ → α, ∀ k : Fin n, f k = F k.val :=
  ⟨fun k => if h : k < n then f ⟨k, h⟩ else 0, fun k => by
    show f k = dite (k.val < n) _ _
    rw [dif_pos k.isLt]⟩

/-- A power of two, read at an index. -/
theorem exp2_at (f : FVec Ideal S192x1 .f32) (i : S192x1.Idx) : exp2 f i = Ideal.exp2 (f i) := rfl

/-- A token's scale, from the reference's exponent. -/
theorem scale_exp2 (x : Vec Ideal S192x3584 .bf16) (i : S192x1.Idx) : scaleV x i = Ideal.exp2 (Cert.ReferenceIdeal.Gen.k0_pay3 x i) :=
  (congrFun (scale_eq x) i).trans (exp2_at _ i)

/-- A column spread over the lanes, read at an index. -/
theorem spread_at (v : FVec Ideal S192x1 .f32) (t : Fin 192) (l : Fin 128) : k0_pay20 v (ValueIdx.ix2 t l) = v (ValueIdx.ix2 t 0) := by
  pointwise [k0_pay20]
  rfl

/-- The two programs give the same products. -/
theorem products_eq (W : Vec Ideal S1792x19456 .i8) (S : Vec Ideal S28x19456 .f32) (x : Vec Ideal S192x3584 .bf16) :
    yAll W S (xPerm (codesOf x)) (scalesOf x)
      = Cert.ReferenceIdeal.Gen.k0_pay1 (Cert.ReferenceIdeal.Gen.k0_pay3 x) (Cert.ReferenceIdeal.Gen.k0_pay4 x) W S := by
  rw [codesOf_eq, scalesOf_eq, ← codes_eq]
  funext i
  rw [idx_eq i]
  generalize (⟨(i 0).val, (i 0).isLt⟩ : Fin 192) = t
  generalize (⟨(i 1).val, (i 1).isLt⟩ : Fin 19456) = n
  obtain ⟨C, hC⟩ := extend 3584 fun k => (codes_real x (ValueIdx.ix2 t k)).choose
  have hC' : ∀ k : Fin 3584, codesV x (ValueIdx.ix2 t k) = ((C k.val : ℝ) : EReal) := fun k => by
    rw [← hC]; exact (codes_real x (ValueIdx.ix2 t k)).choose_spec
  obtain ⟨lo, hl⟩ := extend 1792 fun p => (loInt (W (ValueIdx.ix2 p n)) : ℝ)
  obtain ⟨hi, hh⟩ := extend 1792 fun p => (hiInt (W (ValueIdx.ix2 p n)) : ℝ)
  obtain ⟨s, hs⟩ := extend 28 fun g => (S (ValueIdx.ix2 g n) : EReal)
  rw [kernel_at W S (codesV x) _ t n C lo hi s (scaleV x (ValueIdx.ix2 t 0)) hC' hl hh hs,
    reference_at W S (codesV x) _ t n C lo hi s hC' hl hh hs, scale_exp2]
  exact fun l => spread_at _ t l

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Launch
public import proofs.«01_k».proof.Proof.Kernel.Launch
public import proofs.«01_k».proof.Proof.Final
public import proofs.«01_k».proof.Proof.RefFinal
public import proofs.«01_k».proof.Proof.Equal
public import Idealize.ShloMosaic.Adequacy
public import Idealize.ShloMosaic.Init

@[expose] public section

noncomputable section

namespace Cert.Proof

open Idealize.ShloMosaic Idealize.SL.Sem Cert.Kernel

/-- From equal arguments the kernel and the reference end with equal results, all three. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨_, _, _, Cert.KernelIdeal.Hand.run_value m g, ?_⟩
  refine (θ_run _ _ _).mono (fun r h c => ?_) (Cert.ReferenceIdeal.Hand.run_value m' g')
  obtain ⟨h0, h1, h2, h3⟩ := h c
  obtain ⟨e0, e1, e2⟩ := hm c
  have et : Cert.ReferenceIdeal.Hand.toks m' c = Cert.KernelIdeal.Hand.tokens m c := by
    unfold Cert.ReferenceIdeal.Hand.toks Cert.KernelIdeal.Hand.tokens
    rw [e0]
  refine ⟨h0.trans ?_, h1.trans ?_, h2.trans ?_, h3⟩
  · rw [et, e1, e2]
    exact (Cert.KernelIdeal.Hand.products_eq _ _ _).symm
  · rw [et]
    exact ((Cert.KernelIdeal.Hand.codesOf_eq _).trans (Cert.KernelIdeal.Hand.codes_eq _)).symm
  · rw [et]
    exact ((Cert.KernelIdeal.Hand.scaleOf_eq _).trans (Cert.KernelIdeal.Hand.scale_eq _)).symm

/-- All five claims: the three programs run and leave their arguments and semaphores as they were, the exact reading of the
    kernel is its own text, and it gives the reference's results. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, fun m g _ => Cert.ReferenceIdeal.Gen.frame m g,
  trivial, algebraic⟩

end Cert.Proof

end
